-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 8192, 1024]⟩ ⟨3, ![8, 8192, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨2, ![1024, 1024]⟩ ⟨2, ![8192, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x1024 : Shape := ⟨3, ![1, 8192, 1024]⟩
abbrev S1024 : Shape := ⟨1, ![1024]⟩
abbrev S1x1024 : Shape := ⟨2, ![1, 1024]⟩
abbrev S1024x1024 : Shape := ⟨2, ![1024, 1024]⟩
abbrev S7x512x1024 : Shape := ⟨3, ![7, 512, 1024]⟩
abbrev S2x512x1024 : Shape := ⟨3, ![2, 512, 1024]⟩
abbrev S7x4 : Shape := ⟨2, ![7, 4]⟩
abbrev S2 : Shape := ⟨1, ![2]⟩
abbrev S1 : Shape := ⟨1, ![1]⟩
abbrev S_ : Shape := ⟨0, ![]⟩
abbrev S1x512x1024 : Shape := ⟨3, ![1, 512, 1024]⟩
abbrev S512x1024 : Shape := ⟨2, ![512, 1024]⟩
abbrev S1x1 : Shape := ⟨2, ![1, 1]⟩
abbrev S1x128x1024 : Shape := ⟨3, ![1, 128, 1024]⟩
abbrev S128x1024 : Shape := ⟨2, ![128, 1024]⟩
abbrev S128 : Shape := ⟨1, ![128]⟩
abbrev S128x1 : Shape := ⟨2, ![128, 1]⟩

abbrev nBuf : Space → Nat
  | .hbm => 4
  | .vmem => 8
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x1024, .f32⟩
  | .hbm, ⟨3, _⟩ => ⟨S1024x1024, .f32⟩
  | .local _ .vmem, ⟨0, _⟩ => ⟨S1x1024, .f32⟩
  | .local _ .vmem, ⟨1, _⟩ => ⟨S1024x1024, .f32⟩
  | .local _ .vmem, ⟨2, _⟩ => ⟨S7x512x1024, .bf16⟩
  | .local _ .vmem, ⟨3, _⟩ => ⟨S7x512x1024, .bf16⟩
  | .local _ .vmem, ⟨4, _⟩ => ⟨S7x512x1024, .bf16⟩
  | .local _ .vmem, ⟨5, _⟩ => ⟨S7x512x1024, .bf16⟩
  | .local _ .vmem, ⟨6, _⟩ => ⟨S2x512x1024, .f32⟩
  | .local _ .vmem, ⟨7, _⟩ => ⟨S2x512x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 118 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | _ => false

abbrev sig : RefSig :=
  (ofTc nBuf bufTy 1 118 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) (c8_i32_0 : BitVec 32) (c1_i32_1 : BitVec 32) : Fin 3 → Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v6 : BitVec 32 := Scalar.addi v5 c8_i32_0
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1024_i32 : BitVec 32 := 1024#32
  let v17 : BitVec 32 := Scalar.muli v11 c1024_i32
  let c0_i32_14 : BitVec 32 := 0#32
  ![0, v17.toNat, 0]
def k0_off1_at (r : Fin 2) : BitVec 32 × BitVec 32 :=
  if r.val < 1 then
    (8#32, 1#32)
  else
    (16#32, 2#32)
def k0_off2 (d0 : Dev nD) (c1_i32_5 : BitVec 32) : Fin 3 → Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1024_i32_9 : BitVec 32 := 1024#32
  let v18 : BitVec 32 := Scalar.muli v16 c1024_i32_9
  let c512_i32 : BitVec 32 := 512#32
  let v19 : BitVec 32 := Scalar.addi v18 c512_i32
  let c0_i32_20 : BitVec 32 := 0#32
  ![0, v19.toNat, 0]
def k0_dev1 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_22 : BitVec 32 := 1#32
  let v33 : BitVec 32 := Scalar.muli v11 c1_i32_22
  let v34 : BitVec 32 := Scalar.addi c0_i32_23 v33
  v34.toNat
def k0_dev2 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_25 : BitVec 32 := 1#32
  let v35 : BitVec 32 := Scalar.muli v16 c1_i32_25
  let v36 : BitVec 32 := Scalar.addi c0_i32_26 v35
  v36.toNat
def k0_dev3 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_44 : BitVec 32 := 1#32
  let v49 : BitVec 32 := Scalar.muli v16 c1_i32_44
  let v50 : BitVec 32 := Scalar.addi c0_i32_45 v49
  v50.toNat
def k0_dev4 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_56 : BitVec 32 := 1#32
  let v59 : BitVec 32 := Scalar.muli v16 c1_i32_56
  let v60 : BitVec 32 := Scalar.addi c0_i32_57 v59
  v60.toNat
def k0_dev5 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_67 : BitVec 32 := 1#32
  let v69 : BitVec 32 := Scalar.muli v16 c1_i32_67
  let v70 : BitVec 32 := Scalar.addi c0_i32_68 v69
  v70.toNat
def k0_dev6 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_77 : BitVec 32 := 1#32
  let v79 : BitVec 32 := Scalar.muli v16 c1_i32_77
  let v80 : BitVec 32 := Scalar.addi c0_i32_78 v79
  v80.toNat
def k0_dev7 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_100 : BitVec 32 := 1#32
  let v101 : BitVec 32 := Scalar.muli v11 c1_i32_100
  let v102 : BitVec 32 := Scalar.addi c0_i32_101 v101
  v102.toNat
def k0_dev8 (d0 : Dev nD) : Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_112 : BitVec 32 := 1#32
  let v111 : BitVec 32 := Scalar.muli v11 c1_i32_112
  let v112 : BitVec 32 := Scalar.addi c0_i32_113 v111
  v112.toNat
def k0_dev9 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_124 : BitVec 32 := 1#32
  let v121 : BitVec 32 := Scalar.muli v11 c1_i32_124
  let v122 : BitVec 32 := Scalar.addi c0_i32_125 v121
  v122.toNat
def k0_dev10 (d0 : Dev nD) : Nat :=
  let c0_i32_137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_136 : BitVec 32 := 1#32
  let v131 : BitVec 32 := Scalar.muli v11 c1_i32_136
  let v132 : BitVec 32 := Scalar.addi c0_i32_137 v131
  v132.toNat
def k0_off3 (d0 : Dev nD) (c0_i32_180 : BitVec 32) : Fin 3 → Nat :=
  let c0_i32_186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_179 : BitVec 32 := 16#32
  let v179 : BitVec 32 := Scalar.addi v5 c16_i32_179
  let v180 : BitVec 32 := Scalar.subi v179 c0_i32_180
  let c3_i32_181 : BitVec 32 := 3#32
  let v181 : BitVec 32 := Scalar.subi v180 c3_i32_181
  let c8_i32_182 : BitVec 32 := 8#32
  let v182 : BitVec 32 := Scalar.remsi v181 c8_i32_182
  let c4_i32_183 : BitVec 32 := 4#32
  let v183 : BitVec 1 := Scalar.cmpi .slt v182 c4_i32_183
  let c11_i32_184 : BitVec 32 := 11#32
  let v184 : BitVec 32 := Scalar.subi c11_i32_184 v182
  let v185 : BitVec 32 := Scalar.select v183 v182 v184
  let c1024_i32_185 : BitVec 32 := 1024#32
  let v186 : BitVec 32 := Scalar.muli v185 c1024_i32_185
  let c0_i32_191 : BitVec 32 := 0#32
  ![0, v186.toNat, 0]
def k0_off4 (d0 : Dev nD) (c0_i32_192 : BitVec 32) : Fin 3 → Nat :=
  let c0_i32_199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v193 : BitVec 32 := Scalar.addi v5 c0_i32_192
  let c3_i32_193 : BitVec 32 := 3#32
  let v194 : BitVec 32 := Scalar.addi v193 c3_i32_193
  let c8_i32_194 : BitVec 32 := 8#32
  let v195 : BitVec 32 := Scalar.remsi v194 c8_i32_194
  let c4_i32_195 : BitVec 32 := 4#32
  let v196 : BitVec 1 := Scalar.cmpi .slt v195 c4_i32_195
  let c11_i32_196 : BitVec 32 := 11#32
  let v197 : BitVec 32 := Scalar.subi c11_i32_196 v195
  let v198 : BitVec 32 := Scalar.select v196 v195 v197
  let c1024_i32_197 : BitVec 32 := 1024#32
  let v199 : BitVec 32 := Scalar.muli v198 c1024_i32_197
  let c512_i32_198 : BitVec 32 := 512#32
  let v200 : BitVec 32 := Scalar.addi v199 c512_i32_198
  let c0_i32_204 : BitVec 32 := 0#32
  ![0, v200.toNat, 0]
def k0_dev11 (d0 : Dev nD) : Nat :=
  let c0_i32_243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_242 : BitVec 32 := 1#32
  let v230 : BitVec 32 := Scalar.muli v16 c1_i32_242
  let v231 : BitVec 32 := Scalar.addi c0_i32_243 v230
  v231.toNat
def k0_dev12 (d0 : Dev nD) : Nat :=
  let c0_i32_287 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_286 : BitVec 32 := 1#32
  let v263 : BitVec 32 := Scalar.muli v11 c1_i32_286
  let v264 : BitVec 32 := Scalar.addi c0_i32_287 v263
  v264.toNat
def k0_dev13 (d0 : Dev nD) : Nat :=
  let c0_i32_330 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_329 : BitVec 32 := 1#32
  let v296 : BitVec 32 := Scalar.muli v16 c1_i32_329
  let v297 : BitVec 32 := Scalar.addi c0_i32_330 v296
  v297.toNat
def k0_dev14 (d0 : Dev nD) : Nat :=
  let c0_i32_374 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_373 : BitVec 32 := 1#32
  let v329 : BitVec 32 := Scalar.muli v11 c1_i32_373
  let v330 : BitVec 32 := Scalar.addi c0_i32_374 v329
  v330.toNat
def k0_dev15 (d0 : Dev nD) : Nat :=
  let c0_i32_417 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_416 : BitVec 32 := 1#32
  let v362 : BitVec 32 := Scalar.muli v16 c1_i32_416
  let v363 : BitVec 32 := Scalar.addi c0_i32_417 v362
  v363.toNat
def k0_dev16 (d0 : Dev nD) : Nat :=
  let c0_i32_461 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_460 : BitVec 32 := 1#32
  let v395 : BitVec 32 := Scalar.muli v11 c1_i32_460
  let v396 : BitVec 32 := Scalar.addi c0_i32_461 v395
  v396.toNat
def k0_dev17 (d0 : Dev nD) : Nat :=
  let c0_i32_504 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_503 : BitVec 32 := 1#32
  let v428 : BitVec 32 := Scalar.muli v16 c1_i32_503
  let v429 : BitVec 32 := Scalar.addi c0_i32_504 v428
  v429.toNat
def k0_dev18 (d0 : Dev nD) : Nat :=
  let c0_i32_548 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_547 : BitVec 32 := 1#32
  let v461 : BitVec 32 := Scalar.muli v11 c1_i32_547
  let v462 : BitVec 32 := Scalar.addi c0_i32_548 v461
  v462.toNat
def k0_dev19 (d0 : Dev nD) : Nat :=
  let c0_i32_631 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_630 : BitVec 32 := 1#32
  let v534 : BitVec 32 := Scalar.muli v16 c1_i32_630
  let v535 : BitVec 32 := Scalar.addi c0_i32_631 v534
  v535.toNat
def k0_dev20 (d0 : Dev nD) : Nat :=
  let c0_i32_675 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_674 : BitVec 32 := 1#32
  let v567 : BitVec 32 := Scalar.muli v11 c1_i32_674
  let v568 : BitVec 32 := Scalar.addi c0_i32_675 v567
  v568.toNat
def k0_dev21 (d0 : Dev nD) : Nat :=
  let c0_i32_719 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_718 : BitVec 32 := 1#32
  let v600 : BitVec 32 := Scalar.muli v16 c1_i32_718
  let v601 : BitVec 32 := Scalar.addi c0_i32_719 v600
  v601.toNat
def k0_dev22 (d0 : Dev nD) : Nat :=
  let c0_i32_763 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_762 : BitVec 32 := 1#32
  let v633 : BitVec 32 := Scalar.muli v11 c1_i32_762
  let v634 : BitVec 32 := Scalar.addi c0_i32_763 v633
  v634.toNat
def k0_dev23 (d0 : Dev nD) : Nat :=
  let c0_i32_807 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_806 : BitVec 32 := 1#32
  let v666 : BitVec 32 := Scalar.muli v16 c1_i32_806
  let v667 : BitVec 32 := Scalar.addi c0_i32_807 v666
  v667.toNat
def k0_dev24 (d0 : Dev nD) : Nat :=
  let c0_i32_851 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_850 : BitVec 32 := 1#32
  let v699 : BitVec 32 := Scalar.muli v11 c1_i32_850
  let v700 : BitVec 32 := Scalar.addi c0_i32_851 v699
  v700.toNat
def k0_dev25 (d0 : Dev nD) : Nat :=
  let c0_i32_895 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_894 : BitVec 32 := 1#32
  let v732 : BitVec 32 := Scalar.muli v16 c1_i32_894
  let v733 : BitVec 32 := Scalar.addi c0_i32_895 v732
  v733.toNat
def k0_dev26 (d0 : Dev nD) : Nat :=
  let c0_i32_939 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_938 : BitVec 32 := 1#32
  let v765 : BitVec 32 := Scalar.muli v11 c1_i32_938
  let v766 : BitVec 32 := Scalar.addi c0_i32_939 v765
  v766.toNat
def k0_dev27 (d0 : Dev nD) : Nat :=
  let c0_i32_1022 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1021 : BitVec 32 := 1#32
  let v838 : BitVec 32 := Scalar.muli v16 c1_i32_1021
  let v839 : BitVec 32 := Scalar.addi c0_i32_1022 v838
  v839.toNat
def k0_dev28 (d0 : Dev nD) : Nat :=
  let c0_i32_1066 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1065 : BitVec 32 := 1#32
  let v871 : BitVec 32 := Scalar.muli v11 c1_i32_1065
  let v872 : BitVec 32 := Scalar.addi c0_i32_1066 v871
  v872.toNat
def k0_dev29 (d0 : Dev nD) : Nat :=
  let c0_i32_1110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1109 : BitVec 32 := 1#32
  let v904 : BitVec 32 := Scalar.muli v16 c1_i32_1109
  let v905 : BitVec 32 := Scalar.addi c0_i32_1110 v904
  v905.toNat
def k0_dev30 (d0 : Dev nD) : Nat :=
  let c0_i32_1154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1153 : BitVec 32 := 1#32
  let v937 : BitVec 32 := Scalar.muli v11 c1_i32_1153
  let v938 : BitVec 32 := Scalar.addi c0_i32_1154 v937
  v938.toNat
def k0_dev31 (d0 : Dev nD) : Nat :=
  let c0_i32_1198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1197 : BitVec 32 := 1#32
  let v970 : BitVec 32 := Scalar.muli v16 c1_i32_1197
  let v971 : BitVec 32 := Scalar.addi c0_i32_1198 v970
  v971.toNat
def k0_dev32 (d0 : Dev nD) : Nat :=
  let c0_i32_1242 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1241 : BitVec 32 := 1#32
  let v1003 : BitVec 32 := Scalar.muli v11 c1_i32_1241
  let v1004 : BitVec 32 := Scalar.addi c0_i32_1242 v1003
  v1004.toNat
def k0_dev33 (d0 : Dev nD) : Nat :=
  let c0_i32_1286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1285 : BitVec 32 := 1#32
  let v1036 : BitVec 32 := Scalar.muli v16 c1_i32_1285
  let v1037 : BitVec 32 := Scalar.addi c0_i32_1286 v1036
  v1037.toNat
def k0_dev34 (d0 : Dev nD) : Nat :=
  let c0_i32_1330 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1329 : BitVec 32 := 1#32
  let v1069 : BitVec 32 := Scalar.muli v11 c1_i32_1329
  let v1070 : BitVec 32 := Scalar.addi c0_i32_1330 v1069
  v1070.toNat
def k0_dev35 (d0 : Dev nD) : Nat :=
  let c0_i32_1413 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1412 : BitVec 32 := 1#32
  let v1142 : BitVec 32 := Scalar.muli v16 c1_i32_1412
  let v1143 : BitVec 32 := Scalar.addi c0_i32_1413 v1142
  v1143.toNat
def k0_dev36 (d0 : Dev nD) : Nat :=
  let c0_i32_1457 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1456 : BitVec 32 := 1#32
  let v1175 : BitVec 32 := Scalar.muli v11 c1_i32_1456
  let v1176 : BitVec 32 := Scalar.addi c0_i32_1457 v1175
  v1176.toNat
def k0_dev37 (d0 : Dev nD) : Nat :=
  let c0_i32_1501 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1500 : BitVec 32 := 1#32
  let v1208 : BitVec 32 := Scalar.muli v16 c1_i32_1500
  let v1209 : BitVec 32 := Scalar.addi c0_i32_1501 v1208
  v1209.toNat
def k0_dev38 (d0 : Dev nD) : Nat :=
  let c0_i32_1545 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1544 : BitVec 32 := 1#32
  let v1241 : BitVec 32 := Scalar.muli v11 c1_i32_1544
  let v1242 : BitVec 32 := Scalar.addi c0_i32_1545 v1241
  v1242.toNat
def k0_dev39 (d0 : Dev nD) : Nat :=
  let c0_i32_1589 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1588 : BitVec 32 := 1#32
  let v1274 : BitVec 32 := Scalar.muli v16 c1_i32_1588
  let v1275 : BitVec 32 := Scalar.addi c0_i32_1589 v1274
  v1275.toNat
def k0_dev40 (d0 : Dev nD) : Nat :=
  let c0_i32_1633 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1632 : BitVec 32 := 1#32
  let v1307 : BitVec 32 := Scalar.muli v11 c1_i32_1632
  let v1308 : BitVec 32 := Scalar.addi c0_i32_1633 v1307
  v1308.toNat
def k0_dev41 (d0 : Dev nD) : Nat :=
  let c0_i32_1677 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1676 : BitVec 32 := 1#32
  let v1340 : BitVec 32 := Scalar.muli v16 c1_i32_1676
  let v1341 : BitVec 32 := Scalar.addi c0_i32_1677 v1340
  v1341.toNat
def k0_dev42 (d0 : Dev nD) : Nat :=
  let c0_i32_1721 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1720 : BitVec 32 := 1#32
  let v1373 : BitVec 32 := Scalar.muli v11 c1_i32_1720
  let v1374 : BitVec 32 := Scalar.addi c0_i32_1721 v1373
  v1374.toNat
def k0_dev43 (d0 : Dev nD) : Nat :=
  let c0_i32_1803 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1802 : BitVec 32 := 1#32
  let v1446 : BitVec 32 := Scalar.muli v16 c1_i32_1802
  let v1447 : BitVec 32 := Scalar.addi c0_i32_1803 v1446
  v1447.toNat
def k0_dev44 (d0 : Dev nD) : Nat :=
  let c0_i32_1847 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1846 : BitVec 32 := 1#32
  let v1479 : BitVec 32 := Scalar.muli v11 c1_i32_1846
  let v1480 : BitVec 32 := Scalar.addi c0_i32_1847 v1479
  v1480.toNat
def k0_dev45 (d0 : Dev nD) : Nat :=
  let c0_i32_1891 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1890 : BitVec 32 := 1#32
  let v1512 : BitVec 32 := Scalar.muli v16 c1_i32_1890
  let v1513 : BitVec 32 := Scalar.addi c0_i32_1891 v1512
  v1513.toNat
def k0_dev46 (d0 : Dev nD) : Nat :=
  let c0_i32_1935 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1934 : BitVec 32 := 1#32
  let v1545 : BitVec 32 := Scalar.muli v11 c1_i32_1934
  let v1546 : BitVec 32 := Scalar.addi c0_i32_1935 v1545
  v1546.toNat
def k0_dev47 (d0 : Dev nD) : Nat :=
  let c0_i32_1979 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1978 : BitVec 32 := 1#32
  let v1578 : BitVec 32 := Scalar.muli v16 c1_i32_1978
  let v1579 : BitVec 32 := Scalar.addi c0_i32_1979 v1578
  v1579.toNat
def k0_dev48 (d0 : Dev nD) : Nat :=
  let c0_i32_2023 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2022 : BitVec 32 := 1#32
  let v1611 : BitVec 32 := Scalar.muli v11 c1_i32_2022
  let v1612 : BitVec 32 := Scalar.addi c0_i32_2023 v1611
  v1612.toNat
def k0_dev49 (d0 : Dev nD) : Nat :=
  let c0_i32_2067 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2066 : BitVec 32 := 1#32
  let v1644 : BitVec 32 := Scalar.muli v16 c1_i32_2066
  let v1645 : BitVec 32 := Scalar.addi c0_i32_2067 v1644
  v1645.toNat
def k0_dev50 (d0 : Dev nD) : Nat :=
  let c0_i32_2111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2110 : BitVec 32 := 1#32
  let v1677 : BitVec 32 := Scalar.muli v11 c1_i32_2110
  let v1678 : BitVec 32 := Scalar.addi c0_i32_2111 v1677
  v1678.toNat
def k0_dev51 (d0 : Dev nD) : Nat :=
  let c0_i32_2193 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2192 : BitVec 32 := 1#32
  let v1750 : BitVec 32 := Scalar.muli v16 c1_i32_2192
  let v1751 : BitVec 32 := Scalar.addi c0_i32_2193 v1750
  v1751.toNat
def k0_dev52 (d0 : Dev nD) : Nat :=
  let c0_i32_2237 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2236 : BitVec 32 := 1#32
  let v1783 : BitVec 32 := Scalar.muli v11 c1_i32_2236
  let v1784 : BitVec 32 := Scalar.addi c0_i32_2237 v1783
  v1784.toNat
def k0_dev53 (d0 : Dev nD) : Nat :=
  let c0_i32_2281 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2280 : BitVec 32 := 1#32
  let v1816 : BitVec 32 := Scalar.muli v16 c1_i32_2280
  let v1817 : BitVec 32 := Scalar.addi c0_i32_2281 v1816
  v1817.toNat
def k0_dev54 (d0 : Dev nD) : Nat :=
  let c0_i32_2325 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2324 : BitVec 32 := 1#32
  let v1849 : BitVec 32 := Scalar.muli v11 c1_i32_2324
  let v1850 : BitVec 32 := Scalar.addi c0_i32_2325 v1849
  v1850.toNat
def k0_dev55 (d0 : Dev nD) : Nat :=
  let c0_i32_2369 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2368 : BitVec 32 := 1#32
  let v1882 : BitVec 32 := Scalar.muli v16 c1_i32_2368
  let v1883 : BitVec 32 := Scalar.addi c0_i32_2369 v1882
  v1883.toNat
def k0_dev56 (d0 : Dev nD) : Nat :=
  let c0_i32_2413 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2412 : BitVec 32 := 1#32
  let v1915 : BitVec 32 := Scalar.muli v11 c1_i32_2412
  let v1916 : BitVec 32 := Scalar.addi c0_i32_2413 v1915
  v1916.toNat
def k0_dev57 (d0 : Dev nD) : Nat :=
  let c0_i32_2457 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2456 : BitVec 32 := 1#32
  let v1948 : BitVec 32 := Scalar.muli v16 c1_i32_2456
  let v1949 : BitVec 32 := Scalar.addi c0_i32_2457 v1948
  v1949.toNat
def k0_dev58 (d0 : Dev nD) : Nat :=
  let c0_i32_2501 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2500 : BitVec 32 := 1#32
  let v1981 : BitVec 32 := Scalar.muli v11 c1_i32_2500
  let v1982 : BitVec 32 := Scalar.addi c0_i32_2501 v1981
  v1982.toNat
abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8x8192x1024 : Shape := ⟨3, ![8, 8192, 1024]⟩
abbrev S1024 : Shape := ⟨1, ![1024]⟩
abbrev S_ : Shape := ⟨0, ![]⟩
abbrev S8192x1024 : Shape := ⟨2, ![8192, 1024]⟩
abbrev S8192 : Shape := ⟨1, ![8192]⟩
abbrev S8192x1 : Shape := ⟨2, ![8192, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Steps.lean ====
/-
The kernel's body as a loop.

The printed body is one straight line of about thirteen hundred operations: two rings, seven hops, four sub-blocks,
everything unrolled. Here it is written again by its steps, each a program generic in the direction `d` (`false`: the
ring that sends to the right neighbour, `true`: the one that sends to the left), the hop `h` and the sub-block `k`,
and taking what follows as a continuation. `body_eq` says the printed body is that program.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic

@[expose] public section

noncomputable section

namespace Cert.RingNorm

open Cert.KernelIdeal Cert.KernelIdeal.Gen

open Idealize.ShloMosaic
open Idealize.ShloMosaic.TcCoe
open Idealize.SL Idealize.SL.Sem

variable {F : FTy → Type} [FloatOps F]

/-! ## The buffers, the rectangles, the semaphores -/

/-- The send buffer of a ring. -/
def sendM : Bool → Memref sig .tc .vmem S7x512x1024 .bf16
  | false => Memref.whole cc0_scratch0
  | true => Memref.whole cc0_scratch2
/-- The receive buffer of a ring. -/
def recvM : Bool → Memref sig .tc .vmem S7x512x1024 .bf16
  | false => Memref.whole cc0_scratch1
  | true => Memref.whole cc0_scratch3
/-- The staging buffer of a ring, two slots. -/
def stageM : Bool → Memref sig .tc .vmem S2x512x1024 .f32
  | false => Memref.whole cc0_scratch4
  | true => Memref.whole cc0_scratch5
/-- The device's partial sums, in HBM. -/
abbrev srcM : Memref sig .tc .hbm S1x8192x1024 .f32 := Memref.whole main_arg0
/-- The staged scale vector. -/
abbrev gamM : Memref sig .tc .vmem S1x1024 .f32 := win0_0.stage (cfg0.slots t0_0 0)
/-- The staged result block. -/
abbrev outM : Memref sig .tc .vmem S1024x1024 .f32 := win0_1.stage (cfg0.slots t0_0 1)

theorem sendM_whole (d : Bool) : (sendM d).IsWhole := by cases d <;> exact Memref.isWhole_whole _
theorem recvM_whole (d : Bool) : (recvM d).IsWhole := by cases d <;> exact Memref.isWhole_whole _

/-- Sub-block `k` of hop `h` of a send or receive buffer. -/
theorem hk_inb (h : Fin 7) (k : Fin 4) :
    ∀ a, (![h.val, 128 * k.val, 0] : Fin 3 → Nat) a + S1x128x1024.size a ≤ S7x512x1024.size a := by
  revert h k; decide
abbrev hkR (h : Fin 7) (k : Fin 4) : Rect S7x512x1024 :=
  Rect.unit (s := S7x512x1024) ![h.val, 128 * k.val, 0] S1x128x1024.size (hk_inb h k)
theorem hk_packed (h : Fin 7) (k : Fin 4) : (hkR h k).PackedRows (EltTy.packing .bf16) := by
  revert h k; decide
/-- All of hop 0 of a send buffer. -/
abbrev firstR : Rect S7x512x1024 :=
  Rect.unit (s := S7x512x1024) ![0, 0, 0] S1x512x1024.size inb_S7x512x1024_S1x512x1024_0_0_0

/-- Slot `s` of a staging buffer, whole. -/
theorem slot_inb (s : Fin 2) :
    ∀ a, (![s.val, 0, 0] : Fin 3 → Nat) a + S1x512x1024.size a ≤ S2x512x1024.size a := by
  revert s; decide
abbrev slotR (s : Fin 2) : Rect S2x512x1024 :=
  Rect.unit (s := S2x512x1024) ![s.val, 0, 0] S1x512x1024.size (slot_inb s)
/-- Sub-block `k` of a slot. -/
theorem slotk_inb (s : Fin 2) (k : Fin 4) :
    ∀ a, (![s.val, 128 * k.val, 0] : Fin 3 → Nat) a + S1x128x1024.size a ≤ S2x512x1024.size a := by
  revert s k; decide
abbrev slotkR (s : Fin 2) (k : Fin 4) : Rect S2x512x1024 :=
  Rect.unit (s := S2x512x1024) ![s.val, 128 * k.val, 0] S1x128x1024.size (slotk_inb s k)

/-- Sub-block `k` of the half of the result block a ring computes. -/
theorem outk_inb (d : Bool) (k : Fin 4) :
    ∀ a, (![512 * d.toNat + 128 * k.val, 0] : Fin 2 → Nat) a + S128x1024.size a ≤ S1024x1024.size a := by
  revert d k; decide
abbrev outR (d : Bool) (k : Fin 4) : Rect S1024x1024 :=
  Rect.unit (s := S1024x1024) ![512 * d.toNat + 128 * k.val, 0] S128x1024.size (outk_inb d k)

/-- The rows of the input fetch `t` of a ring reads, as the program computes their offset. -/
def fetchOff (d : Bool) (c : Dev nD) : ℕ → Fin 3 → Nat
  | 0 => match d with | false => k0_off1 c 8#32 1#32 | true => k0_off2 c 1#32
  | 1 => match d with | false => k0_off1 c 16#32 2#32 | true => k0_off2 c 2#32
  | n + 2 => match d with | false => k0_off3 c (BitVec.ofNat 32 n) | true => k0_off4 c (BitVec.ofNat 32 n)
theorem fetch_inb (d : Bool) (c : Dev nD) (t : Fin 8) :
    ∀ a, fetchOff d c t.val a + S1x512x1024.size a ≤ S1x8192x1024.size a := by
  obtain ⟨t, ht⟩ := t
  match t, d with
  | 0, false => exact k0_off1_inb c 0
  | 0, true => exact k0_off2_inb c 0
  | 1, false => exact k0_off1_inb c 1
  | 1, true => exact k0_off2_inb c 1
  | n + 2, false => exact k0_off3_inb c ⟨n, by omega⟩
  | n + 2, true => exact k0_off4_inb c ⟨n, by omega⟩
abbrev fetchR (d : Bool) (c : Dev nD) (t : Fin 8) : Rect S1x8192x1024 :=
  Rect.unit (s := S1x8192x1024) (fetchOff d c t.val) S1x512x1024.size (fetch_inb d c t)

abbrev sendV (d : Bool) (h : Fin 7) (k : Fin 4) : Memref sig .tc .vmem S128x1024 .bf16 :=
  ((sendM d).slice (hkR h k) (fun _ => rfl)).squeeze S128x1024 squeezes_S1x128x1024_S128x1024
abbrev recvV (d : Bool) (h : Fin 7) (k : Fin 4) : Memref sig .tc .vmem S128x1024 .bf16 :=
  ((recvM d).slice (hkR h k) (fun _ => rfl)).squeeze S128x1024 squeezes_S1x128x1024_S128x1024
abbrev slotV (d : Bool) (s : Fin 2) : Memref sig .tc .vmem S512x1024 .f32 :=
  ((stageM d).slice (slotR s) (fun _ => rfl)).squeeze S512x1024 squeezes_S1x512x1024_S512x1024
abbrev fetchV (d : Bool) (c : Dev nD) (t : Fin 8) : Memref sig .tc .hbm S512x1024 .f32 :=
  (srcM.slice (fetchR d c t) (fun _ => rfl)).squeeze S512x1024 squeezes_S1x512x1024_S512x1024

theorem sendV_words (d : Bool) (h : Fin 7) (k : Fin 4) : (sendV d h k).view.WordExact :=
  ((sendM_whole d).wordExact_slice rfl _ (hk_packed h k).wholeWords).reshape _ _
theorem recvV_words (d : Bool) (h : Fin 7) (k : Fin 4) : (recvV d h k).view.WordExact :=
  ((recvM_whole d).wordExact_slice rfl _ (hk_packed h k).wholeWords).reshape _ _
theorem slotV_words (d : Bool) (s : Fin 2) : (slotV d s).view.WordExact := (View.wordExact_bits rfl).reshape _ _
theorem fetchV_words (d : Bool) (c : Dev nD) (t : Fin 8) : (fetchV d c t).view.WordExact := (View.wordExact_bits rfl).reshape _ _

/-- The semaphore a send completes on at its sender. -/
def ssem (d : Bool) (h : Fin 7) (k : Fin 4) : DmaSem sig := ⟨2 + 56 * d.toNat + 4 * h.val + k.val, by
  show 2 + 56 * d.toNat + 4 * h.val + k.val < 118
  have := Bool.toNat_lt d; omega⟩
/-- The semaphore it completes on at its receiver. -/
def rsem (d : Bool) (h : Fin 7) (k : Fin 4) : DmaSem sig := ⟨30 + 56 * d.toNat + 4 * h.val + k.val, by
  show 30 + 56 * d.toNat + 4 * h.val + k.val < 118
  have := Bool.toNat_lt d; omega⟩
/-- The semaphore a fetch into slot `s` completes on. -/
def csem (d : Bool) (s : Fin 2) : DmaSem sig := ⟨114 + 2 * d.toNat + s.val, by
  show 114 + 2 * d.toNat + s.val < 118
  have := Bool.toNat_lt d; omega⟩
/-- The barrier's semaphore. -/
abbrev barS : Sem sig := (SemArray.scalar (sig.barrier 0 rfl) : Sems sig S_).sem

/-- The device a ring sends to, as the program computes it. -/
def peer (c : Dev nD) : Bool → Dev nD
  | false => ⟨k0_dev3 c, k0_dev3_lt c⟩
  | true => ⟨k0_dev7 c, k0_dev7_lt c⟩

/-! ## The steps -/

/-- Programs of the kernel's body. -/
abbrev Pg (F : FTy → Type) := Prog (TpuEff nD τ sig (Elt F) Λ₀ .tc) PUnit

/-- Start the fetch `t` of a ring into slot `s`. -/
def fetchP (d : Bool) (c : Dev nD) (t : Fin 8) (s : Fin 2) (K : Pg F) : Pg F :=
  .op (.enqueueDma (fetchV d c t) (.here (slotV d s)) (.dma (csem d s)) (fetchV_words d c t) (slotV_words d s) ⟨Or.inl rfl, trivial⟩) fun _ => K

/-- Wait for the fetch in slot `s`. -/
def arriveP (d : Bool) (s : Fin 2) (K : Pg F) : Pg F :=
  .op (.waitDma2 (csem d s) (slotV d s) (slotV d s) (slotV_words d s) (slotV_words d s)) fun _ => K

/-- Send sub-block `k` of hop `h`. -/
def sendP (d : Bool) (c : Dev nD) (h : Fin 7) (k : Fin 4) (K : Pg F) : Pg F :=
  .op (.enqueueDma (sendV d h k) (.remote (Dev.tc (peer c d)) (recvV d h k) (.dma (ssem d h k))) (.dma (rsem d h k))
    (sendV_words d h k) (recvV_words d h k) ⟨⟨rfl, Or.inl rfl⟩, trivial⟩) fun _ => K

/-- Wait until sub-block `k` of hop `h` has been sent, and until the neighbour's has arrived. -/
def joinP (d : Bool) (h : Fin 7) (k : Fin 4) (K : Pg F) : Pg F :=
  .op (.waitDma2 (ssem d h k) (recvV d h k) (sendV d h k) (recvV_words d h k) (sendV_words d h k)) fun _ =>
  .op (.waitDma2 (rsem d h k) (sendV d h k) (recvV d h k) (sendV_words d h k) (recvV_words d h k)) fun _ => K

/-- Wait for fetch 0 and write it, rounded, to hop 0 of the send buffer. -/
def firstP (d : Bool) (c : Dev nD) (K : Pg F) : Pg F :=
  .op (.waitDma2 (csem d 0) (fetchV d c 0) (slotV d 0) (fetchV_words d c 0) (slotV_words d 0)) fun _ =>
  .op (.load (stageM d) (slotR 0).toLoadRect (View.loadsAt_vmem h_S1x512x1024)) fun v =>
  .op (.load (sendM d) firstR.toLoadRect (View.loadsAt_vmem h_S1x512x1024)) fun _ =>
  .op (.store (sendM d) firstR (k0_pay2 v) Finset.univ
    (View.stores_vmem h_S1x512x1024 ((sendM_whole d).storeExact_slice rfl _ packedbf16_S7x512x1024_S1x512x1024_0_0_0) (fun _ => rfl)) (.inl rfl)) fun _ => K

/-- Sub-block `k` of hop `h`, received, added to the device's own and put in place for hop `h'`. -/
def addP (d : Bool) (h h' : Fin 7) (s : Fin 2) (k : Fin 4) (K : Pg F) : Pg F :=
  .op (.load (recvM d) (hkR h k).toLoadRect (View.loadsAt_vmem h_S1x128x1024)) fun v =>
  .op (.load (stageM d) (slotkR s k).toLoadRect (View.loadsAt_vmem h_S1x128x1024)) fun w =>
  .op (.load (sendM d) (hkR h' k).toLoadRect (View.loadsAt_vmem h_S1x128x1024)) fun _ =>
  .op (.store (sendM d) (hkR h' k) (k0_pay4 v w) Finset.univ
    (View.stores_vmem h_S1x128x1024 ((sendM_whole d).storeExact_slice rfl _ (hk_packed h' k)) (fun _ => rfl)) (.inl rfl)) fun _ => K

/-- Sub-block `k` of the last hop, added to the device's own in full precision, normalised, scaled and stored. -/
def normP (d : Bool) (k : Fin 4) (K : Pg F) : Pg F :=
  .op (.load (recvM d) (hkR 6 k).toLoadRect (View.loadsAt_vmem h_S1x128x1024)) fun v =>
  .op (.load (stageM d) (slotkR 1 k).toLoadRect (View.loadsAt_vmem h_S1x128x1024)) fun w =>
  .op (.load gamM (Rect.unit (s := S1x1024) ![0, 0] S1x1024.size inb_S1x1024_S1x1024_0_0).toLoadRect (View.loadsAt_vmem h_S1x1024)) fun g =>
  .op (.load outM (outR d k).toLoadRect (View.loadsAt_vmem h_S128x1024)) fun _ =>
  .op (.store outM (outR d k) (k0_pay66 v w g) Finset.univ (View.stores_vmem_bits_univ h_S128x1024 rfl) (.inl rfl)) fun _ => K

/-- One sub-block of one hop of one ring: wait for it, add, send on. -/
def hopP (d : Bool) (c : Dev nD) (h h' : Fin 7) (s : Fin 2) (k : Fin 4) (K : Pg F) : Pg F :=
  joinP d h k (addP d h h' s k (sendP d c h' k K))

/-- The last hop's sub-block. -/
def lastP (d : Bool) (k : Fin 4) (K : Pg F) : Pg F := joinP d 6 k (normP d k K)

/-- Hop `h` but the last: the fetches have arrived in slot `s`, the next two start into `s'`, the sub-blocks go round. -/
def roundP (c : Dev nD) (h h' : Fin 7) (t : Fin 8) (s s' : Fin 2) (K : Pg F) : Pg F :=
  arriveP false s <| arriveP true s <| fetchP false c t s' <| fetchP true c t s' <|
  hopP false c h h' s 0 <| hopP true c h h' s 0 <| hopP false c h h' s 1 <| hopP true c h h' s 1 <|
  hopP false c h h' s 2 <| hopP true c h h' s 2 <| hopP false c h h' s 3 <| hopP true c h h' s 3 K

/-- The last hop. -/
def endP (K : Pg F) : Pg F :=
  arriveP false 1 <| arriveP true 1 <|
  lastP false 0 <| lastP true 0 <| lastP false 1 <| lastP true 1 <|
  lastP false 2 <| lastP true 2 <| lastP false 3 <| lastP true 3 K

/-- The four sends of hop 0. -/
def sendsP (d : Bool) (c : Dev nD) (K : Pg F) : Pg F :=
  sendP d c 0 0 <| sendP d c 0 1 <| sendP d c 0 2 <| sendP d c 0 3 K

/-- The barrier: signal both neighbours, wait for both. -/
def barrierP (c : Dev nD) (K : Pg F) : Pg F :=
  .op (.semSignal (((⟨k0_dev1 c, k0_dev1_lt c⟩ : Dev nD), .tc) : Thread nD τ) barS (1#32 : BitVec 32).toInt) fun _ =>
  .op (.semSignal (((⟨k0_dev2 c, k0_dev2_lt c⟩ : Dev nD), .tc) : Thread nD τ) barS (1#32 : BitVec 32).toInt) fun _ =>
  .op (.semWait barS (2#32 : BitVec 32).toInt) fun _ => K

/-- The body on device `c`. -/
def mainP (c : Dev nD) : Pg F :=
  fetchP false c 0 0 <| fetchP true c 0 0 <| barrierP c <|
  firstP false c <| sendsP false c <| firstP true c <| sendsP true c <|
  fetchP false c 1 1 <| fetchP true c 1 1 <|
  roundP c 0 1 2 1 0 <| roundP c 1 2 3 0 1 <| roundP c 2 3 4 1 0 <| roundP c 3 4 5 0 1 <| roundP c 4 5 6 1 0 <|
  roundP c 5 6 7 0 1 <| endP (.ret ⟨⟩)

set_option maxRecDepth 65536 in
/-- The printed body is that program. -/
theorem body_eq : bodyAt0 (F := F) t0_0 = .op .deviceId fun c => mainP c := by sl_kernel_rfl

end Cert.RingNorm

end
-- ==== Proof.Cells.lean ====
/-
The protocol of the two rings: the cells, what each hands over, what each device owes, the levels.

A device talks over a barrier cell, a send cell and a receive cell for each ring, hop and sub-block, and two staging
cells for each ring. Send and receive cells are used once; a staging cell takes four fetches, one a round.
-/
module

public import proofs.«01_k».proof.Proof.Steps
public import Idealize.ShloMosaic.Lib.Rounds
public import Idealize.ShloMosaic.Lib.Ring
public import Idealize.ShloMosaic.Lib.ValueIdxCore
public import Idealize.ShloMosaic.Lib.Pipeline.Launch

@[expose] public section

noncomputable section

namespace Cert.RingNorm

open Cert.KernelIdeal Cert.KernelIdeal.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's ghost state: the pipeline's copy of the rounds and the rings' own, whose duties are named by a Bool. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The ring -/

/-- Going round one ring and back by the other. -/
theorem peer_back (c : Dev nD) (d : Bool) : peer (peer c d) (!d) = c := by revert c d; decide +kernel
theorem peer_back' (c : Dev nD) (d : Bool) : peer (peer c (!d)) d = c := by revert c d; decide +kernel
/-- The device the first signal goes to. -/
theorem dev1_eq (c : Dev nD) : (⟨k0_dev1 c, k0_dev1_lt c⟩ : Dev nD) = peer c true := by revert c; decide +kernel
/-- The device the second signal goes to. -/
theorem dev2_eq (c : Dev nD) : (⟨k0_dev2 c, k0_dev2_lt c⟩ : Dev nD) = peer c false := by revert c; decide +kernel
theorem peer_ne (c : Dev nD) : peer c true ≠ peer c false := by revert c; decide +kernel
/-- One step along a ring is a permutation of the devices. -/
def ringE (d : Bool) : Dev nD ≃ Dev nD := ⟨fun c => peer c d, fun c => peer c (!d), fun c => peer_back c d, fun c => peer_back' c d⟩

/-! ## The cells -/

/-- A send or receive cell of a device: ring, hop, sub-block. -/
abbrev HK : Type := Bool × Fin 7 × Fin 4
/-- The kernel's own semaphores of a device: send, receive, staging. -/
abbrev Own : Type := (HK ⊕ HK) ⊕ (Bool × Fin 2)

/-- The semaphore behind each. -/
def osem : Own → SemLoc sig
  | .inl (.inl (d, h, k)) => .dma (ssem d h k)
  | .inl (.inr (d, h, k)) => .dma (rsem d h k)
  | .inr (d, s) => .dma (csem d s)

/-- What a semaphore is for. -/
inductive Kind : Type
  | bar
  | own (o : Own)
  | other
deriving DecidableEq

/-- Read off its number. -/
def kindAt (n : ℕ) : Kind :=
  if n < 2 then .other
  else if n < 114 then
    let x := n - 2
    let d := decide (56 ≤ x)
    let y := x % 56
    if y < 28 then .own (.inl (.inl (d, ⟨y / 4 % 7, Nat.mod_lt _ (by decide)⟩, ⟨y % 4, Nat.mod_lt _ (by decide)⟩)))
    else .own (.inl (.inr (d, ⟨(y - 28) / 4 % 7, Nat.mod_lt _ (by decide)⟩, ⟨y % 4, Nat.mod_lt _ (by decide)⟩)))
  else .own (.inr (decide (116 ≤ n), ⟨n % 2, Nat.mod_lt _ (by decide)⟩))

def kind : SemLoc sig → Kind
  | .reg _ => .bar
  | .dma i => kindAt i.val

theorem kind_osem (o : Own) : kind (osem o) = .own o := by
  rcases o with (⟨d, h, k⟩ | ⟨d, h, k⟩) | ⟨d, s⟩
  · revert d h k; decide +kernel
  · revert d h k; decide +kernel
  · revert d s; decide +kernel
theorem osem_inj : Function.Injective osem := fun a b h => by
  have := congrArg kind h; rw [kind_osem, kind_osem] at this; exact Kind.own.inj this

abbrev barCell (c : Dev nD) : GSem nD τ sig := ((c : Thread nD τ), .reg barS)
abbrev sCell (c : Dev nD) (d : Bool) (h : Fin 7) (k : Fin 4) : GSem nD τ sig := ((c : Thread nD τ), .dma (ssem d h k))
abbrev rCell (c : Dev nD) (d : Bool) (h : Fin 7) (k : Fin 4) : GSem nD τ sig := ((c : Thread nD τ), .dma (rsem d h k))
abbrev cCell (c : Dev nD) (d : Bool) (s : Fin 2) : GSem nD τ sig := ((c : Thread nD τ), .dma (csem d s))
/-- A device's own cell. -/
abbrev oCell (c : Dev nD) (o : Own) : GSem nD τ sig := ((c : Thread nD τ), osem o)

theorem kind_s (d : Bool) (h : Fin 7) (k : Fin 4) : kind (.dma (ssem d h k)) = .own (.inl (.inl (d, h, k))) := kind_osem (.inl (.inl (d, h, k)))
theorem kind_r (d : Bool) (h : Fin 7) (k : Fin 4) : kind (.dma (rsem d h k)) = .own (.inl (.inr (d, h, k))) := kind_osem (.inl (.inr (d, h, k)))
theorem kind_c (d : Bool) (s : Fin 2) : kind (.dma (csem d s)) = .own (.inr (d, s)) := kind_osem (.inr (d, s))

/-- What a send credits, and what a fetch credits. -/
def N : ℕ := (recvV false 0 0).view.dmaCredit
def NC : ℕ := (slotV false 0).view.dmaCredit
theorem N_recv (d : Bool) (h : Fin 7) (k : Fin 4) : (recvV d h k).view.dmaCredit = N := by cases d <;> rfl
theorem N_send (d : Bool) (h : Fin 7) (k : Fin 4) : (sendV d h k).view.dmaCredit = N := by cases d <;> rfl
theorem NC_slot (d : Bool) (s : Fin 2) : (slotV d s).view.dmaCredit = NC := by cases d <;> rfl
theorem N_pos : 0 < N := View.dmaCredit_pos _ (by decide)
theorem NC_pos : 0 < NC := View.dmaCredit_pos _ (by decide)

/-! ## What the buffers hold -/

/-- The number of a fetch. -/
def fin8 (n : ℕ) : Fin 8 := ⟨n % 8, Nat.mod_lt _ (by decide)⟩
/-- The fetch a staging slot takes in its round `r`. -/
def tOf (r : ℕ) (s : Fin 2) : Fin 8 := fin8 (2 * r + s.val)

/-- A device's partial sums. -/
abbrev X (c : Dev nD) : Buf (Elt F) (srcM.view.loc (c : Thread nD τ)) := m ((c : Thread nD τ).loc main_arg0)

/-- The rows of its own partial sums a device adds in at fetch `t` of a ring. -/
def stgV (d : Bool) (t : Fin 8) (c : Dev nD) : FVec F S512x1024 .f32 := (fetchV d c t).view.read (Elt F) (X m c)

/-- Sub-block `k` of such rows. -/
def rows {α : Type} (k : Fin 4) (v : S512x1024.Idx → α) : S128x1024.Idx → α :=
  fun i => v (ix2 (⟨128 * k.val + (i 0).val, by have := (i 0).isLt; have := k.isLt; change (i 0).val < 128 at *; omega⟩ : Fin 512) (i 1))

/-- What sub-block `k` of a ring holds where it starts from, after `n` hops, on the device `c` it has reached. -/
def accV (d : Bool) (k : Fin 4) : ℕ → Dev nD → FVec F S128x1024 .bf16
  | 0, c => truncf .bf16 (rows k (stgV m d 0 c)) bitsLt_bf16_f32
  | n + 1, c => addf (accV d k n (peer c (!d))) (truncf .bf16 (rows k (stgV m d (fin8 (n + 1)) c)) bitsLt_bf16_f32)

/-- A piece of a send buffer at given contents; at some. -/
abbrev sendAt (c : Dev nD) (d : Bool) (h : Fin 7) (k : Fin 4) (A : FVec F S128x1024 .bf16) : sProp 𝕄 :=
  iprop(∃ f : Buf (Elt F) ((sendV d h k).view.loc (c : Thread nD τ)), ⌜(sendV d h k).view.read (Elt F) f = A⌝
    ∗ ((sendV d h k).view.loc (c : Thread nD τ) ↦[(sendV d h k).view.set]{fullShare} f))
abbrev sendAny (c : Dev nD) (d : Bool) (h : Fin 7) (k : Fin 4) : sProp 𝕄 :=
  iprop(∃ f : Buf (Elt F) ((sendV d h k).view.loc (c : Thread nD τ)), ((sendV d h k).view.loc (c : Thread nD τ) ↦[(sendV d h k).view.set]{fullShare} f))
/-- A piece of a receive buffer at given contents; at some. -/
abbrev recvAt (c : Dev nD) (d : Bool) (h : Fin 7) (k : Fin 4) (A : FVec F S128x1024 .bf16) : sProp 𝕄 :=
  iprop(∃ f : Buf (Elt F) ((recvV d h k).view.loc (c : Thread nD τ)), ⌜(recvV d h k).view.read (Elt F) f = A⌝
    ∗ ((recvV d h k).view.loc (c : Thread nD τ) ↦[(recvV d h k).view.set]{fullShare} f))
abbrev recvAny (c : Dev nD) (d : Bool) (h : Fin 7) (k : Fin 4) : sProp 𝕄 :=
  iprop(∃ f : Buf (Elt F) ((recvV d h k).view.loc (c : Thread nD τ)), ((recvV d h k).view.loc (c : Thread nD τ) ↦[(recvV d h k).view.set]{fullShare} f))
/-- A staging slot at given contents; at some. -/
abbrev slotAt (c : Dev nD) (d : Bool) (s : Fin 2) (V : FVec F S512x1024 .f32) : sProp 𝕄 :=
  iprop(∃ f : Buf (Elt F) ((slotV d s).view.loc (c : Thread nD τ)), ⌜(slotV d s).view.read (Elt F) f = V⌝
    ∗ ((slotV d s).view.loc (c : Thread nD τ) ↦[(slotV d s).view.set]{fullShare} f))
abbrev slotAny (c : Dev nD) (d : Bool) (s : Fin 2) : sProp 𝕄 :=
  iprop(∃ f : Buf (Elt F) ((slotV d s).view.loc (c : Thread nD τ)), ((slotV d s).view.loc (c : Thread nD τ) ↦[(slotV d s).view.set]{fullShare} f))

/-- Each ring reads the partial sums through a share of its own. -/
def half : Bool → PosShare TreeShare
  | false => fullShare.left
  | true => fullShare.right
/-- The partial sums, whole, at a ring's share; the rows a fetch reads; the others. -/
abbrev srcAll (c : Dev nD) (d : Bool) : sProp 𝕄 := iprop(srcM.view.loc (c : Thread nD τ) ↦{half d} (X m c))
abbrev srcPart (c : Dev nD) (d : Bool) (t : Fin 8) : sProp 𝕄 :=
  iprop((fetchV d c t).view.loc (c : Thread nD τ) ↦[(fetchV d c t).view.set]{half d} (X m c))
abbrev srcRest (c : Dev nD) (d : Bool) (t : Fin 8) : sProp 𝕄 :=
  iprop(srcM.view.loc (c : Thread nD τ) ↦[Finset.univ \ (fetchV d c t).view.set]{half d} (X m c))

/-! ## The schedule -/

/-- The barrier: the receive buffer of the neighbour a ring sends to, piece by piece, whose cells are open. -/
def barPay (c : Dev nD) (d : Bool) : sProp 𝕄 :=
  bigSep Finset.univ fun hk : Fin 7 × Fin 4 =>
    iprop(recvAny (peer c d) d hk.1 hk.2 ∗ reached ER (rCell (peer c d) d hk.1 hk.2) 0)
/-- What arrives: the neighbour's sub-block. -/
def recvPay (c : Dev nD) (p : HK) : sProp 𝕄 := recvAt c p.1 p.2.1 p.2.2 (accV m p.1 p.2.2 p.2.1.val (peer c (!p.1)))
/-- What a send gives back. -/
def sendPay (c : Dev nD) (p : HK) : sProp 𝕄 := sendAny c p.1 p.2.1 p.2.2
/-- What a fetch brings: the slot filled, and the rows it read. -/
def copyPay (c : Dev nD) (d : Bool) (s : Fin 2) (r : ℕ) : sProp 𝕄 :=
  iprop(slotAt c d s (stgV m d (tOf r s) c) ∗ srcPart m c d (tOf r s))

def dutiesOf (r : ℕ) : Kind → Finset Bool
  | .bar => if r = 0 then Finset.univ else ∅
  | .own (.inl _) => if r = 0 then {false} else ∅
  | .own (.inr _) => if r < 4 then {false} else ∅
  | .other => ∅
def amountK : Kind → ℕ
  | .own (.inl _) => N
  | .own (.inr _) => NC
  | _ => 1
def payOf (c : Dev nD) (r : ℕ) (b : Bool) : Kind → sProp 𝕄
  | .bar => barPay c b
  | .own (.inl (.inl p)) => sendPay c p
  | .own (.inl (.inr p)) => recvPay m c p
  | .own (.inr (d, s)) => copyPay m c d s r
  | .other => iprop(emp)

/-- The rings' schedule: two duties on a barrier cell, one on a send or receive cell, four rounds of one on a staging cell. -/
def sched : Rounds.Schedule (GSem nD τ sig) Bool 𝕄 where
  duties g r := dutiesOf r (kind g.2)
  unitless _ := False
  amount g _ _ := amountK (kind g.2)
  payload g r b := payOf m g.1.1 r b (kind g.2)
  amount_pos g _ _ _ := by
    unfold amountK; split
    · exact N_pos
    · exact NC_pos
    · exact Nat.one_pos

instance sched_storable (g : GSem nD τ sig) (r : ℕ) (b : Bool) :
    BI.Storable (upEmb : UEmb _ 𝕄) ((sched (F := F) m).payload g r b) := by
  show BI.Storable upEmb (payOf m g.1.1 r b (kind g.2))
  unfold payOf
  split
  · unfold barPay; infer_instance
  · unfold sendPay; infer_instance
  · unfold recvPay; infer_instance
  · unfold copyPay; infer_instance
  · infer_instance

section Tables

variable (c : Dev nD) (d : Bool) (h : Fin 7) (k : Fin 4) (s : Fin 2)

theorem duties_bar : (sched (F := F) m).duties (barCell c) 0 = Finset.univ := rfl
theorem duties_s : (sched (F := F) m).duties (sCell c d h k) 0 = {false} := by
  show dutiesOf 0 (kind _) = _; rw [kind_s]; rfl
theorem duties_r : (sched (F := F) m).duties (rCell c d h k) 0 = {false} := by
  show dutiesOf 0 (kind _) = _; rw [kind_r]; rfl
theorem duties_c (r : ℕ) (hr : r < 4) : (sched (F := F) m).duties (cCell c d s) r = {false} := by
  show dutiesOf r (kind _) = _; rw [kind_c]; exact if_pos hr
/-- No duty after the last round of a kind. -/
theorem duties_later (g : GSem nD τ sig) (R : ℕ) (hR : dutiesOf R (kind g.2) = ∅) (hR0 : 0 < R) :
    ∀ r, R ≤ r → (sched (F := F) m).duties g r = ∅ := fun r hr => by
  show dutiesOf r (kind g.2) = ∅
  revert hR; unfold dutiesOf
  rcases kind g.2 with _ | (_ | _) | _ <;> intro hR
  · exact if_neg (by omega)
  · exact if_neg (by omega)
  · by_cases h4 : R < 4
    · exact absurd hR (by simp [h4])
    · exact if_neg (by omega)
  · rfl

theorem amount_bar (b : Bool) : (sched (F := F) m).amount (barCell c) 0 b = 1 := rfl
theorem amount_s (b : Bool) : (sched (F := F) m).amount (sCell c d h k) 0 b = N := by
  show amountK (kind _) = _; rw [kind_s]; rfl
theorem amount_r (b : Bool) : (sched (F := F) m).amount (rCell c d h k) 0 b = N := by
  show amountK (kind _) = _; rw [kind_r]; rfl
theorem amount_c (r : ℕ) (b : Bool) : (sched (F := F) m).amount (cCell c d s) r b = NC := by
  show amountK (kind _) = _; rw [kind_c]; rfl

theorem expect_bar : (sched (F := F) m).expect (barCell c) 0 = 2 := by
  unfold Schedule.expect Schedule.amountOf; rw [duties_bar]; rfl
theorem expect_s : (sched (F := F) m).expect (sCell c d h k) 0 = N := by
  unfold Schedule.expect Schedule.amountOf; rw [duties_s, Finset.sum_singleton, amount_s]
theorem expect_r : (sched (F := F) m).expect (rCell c d h k) 0 = N := by
  unfold Schedule.expect Schedule.amountOf; rw [duties_r, Finset.sum_singleton, amount_r]
theorem expect_c (r : ℕ) (hr : r < 4) : (sched (F := F) m).expect (cCell c d s) r = NC := by
  unfold Schedule.expect Schedule.amountOf; rw [duties_c m c d s r hr, Finset.sum_singleton, amount_c]

theorem payload_bar (b : Bool) : (sched (F := F) m).payload (barCell c) 0 b = barPay c b := rfl
theorem payload_s (b : Bool) : (sched (F := F) m).payload (sCell c d h k) 0 b = sendAny c d h k := by
  show payOf m c 0 b (kind _) = _; rw [kind_s]; rfl
theorem payload_r (b : Bool) : (sched (F := F) m).payload (rCell c d h k) 0 b = recvAt c d h k (accV m d k h.val (peer c (!d))) := by
  show payOf m c 0 b (kind _) = _; rw [kind_r]; rfl
theorem payload_c (r : ℕ) (b : Bool) : (sched (F := F) m).payload (cCell c d s) r b = copyPay m c d s r := by
  show payOf m c r b (kind _) = _; rw [kind_c]; rfl

theorem rest_bar : bigSep ((sched (F := F) m).duties (barCell c) 0 \ ∅) (fun b => (sched (F := F) m).payload (barCell c) 0 b)
    = iprop(barPay c false ∗ barPay c true) := by
  rw [Finset.sdiff_empty, duties_bar, show (Finset.univ : Finset Bool) = {false, true} by decide, bigSep_insert (by decide), bigSep_singleton]; rfl
theorem rest_s : bigSep ((sched (F := F) m).duties (sCell c d h k) 0 \ ∅) (fun b => (sched (F := F) m).payload (sCell c d h k) 0 b) = sendAny c d h k := by
  rw [Finset.sdiff_empty, duties_s, bigSep_singleton, payload_s]
theorem rest_r : bigSep ((sched (F := F) m).duties (rCell c d h k) 0 \ ∅) (fun b => (sched (F := F) m).payload (rCell c d h k) 0 b)
    = recvAt c d h k (accV m d k h.val (peer c (!d))) := by
  rw [Finset.sdiff_empty, duties_r, bigSep_singleton, payload_r]
theorem rest_c (r : ℕ) (hr : r < 4) : bigSep ((sched (F := F) m).duties (cCell c d s) r \ ∅) (fun b => (sched (F := F) m).payload (cCell c d s) r b)
    = copyPay m c d s r := by
  rw [Finset.sdiff_empty, duties_c m c d s r hr, bigSep_singleton, payload_c]

end Tables

/-! ## What a device owes, and the levels -/

/-- The place of a send in the program's order. -/
def code (p : HK) : ℕ := if p.2.1.val = 0 then 4 * p.1.toNat + p.2.2.val else 8 * p.2.1.val + 2 * p.2.2.val + p.1.toNat

theorem code_inj : Function.Injective code := by
  rintro ⟨d, h, k⟩ ⟨d', h', k'⟩ e
  unfold code at e
  dsimp only at e
  have := Bool.toNat_lt d; have := Bool.toNat_lt d'
  have hk := k.isLt; have hk' := k'.isLt
  have key : d.toNat = d'.toNat ∧ h.val = h'.val ∧ k.val = k'.val := by split at e <;> split at e <;> omega
  obtain ⟨h1, h2, h3⟩ := key
  have h1' : d = d' := by revert h1; cases d <;> cases d' <;> decide
  rw [h1', Fin.ext h2, Fin.ext h3]

/-- A send's dues: the credit its landing makes at the neighbour. -/
abbrev due (c : Dev nD) (p : HK) : CellTallies nD τ sig Unit := tallyAt (rCell (peer c p.1) p.1 p.2.1 p.2.2) () N
/-- What is owed once the sends placed before `n` are out. -/
def owed (c : Dev nD) (n : ℕ) : CellTallies nD τ sig Unit := ∑ p ∈ Finset.univ.filter (fun p : HK => n ≤ code p), due c p

theorem owed_step (c : Dev nD) (p : HK) : owed c (code p) = owed c (code p + 1) + due c p := by
  unfold owed
  rw [add_comm, ← Finset.sum_insert (by rw [Finset.mem_filter]; omega)]
  refine Finset.sum_congr (Finset.ext fun q => ?_) fun _ _ => rfl
  rw [Finset.mem_insert, Finset.mem_filter, Finset.mem_filter]
  constructor
  · rintro ⟨-, h⟩
    by_cases e : code p = code q
    · exact .inl (code_inj e).symm
    · exact .inr ⟨Finset.mem_univ _, by omega⟩
  · rintro (rfl | ⟨-, h⟩)
    · exact ⟨Finset.mem_univ _, le_rfl⟩
    · exact ⟨Finset.mem_univ _, by omega⟩

theorem code_lt (p : HK) : code p < 56 := by
  obtain ⟨d, h, k⟩ := p
  unfold code; dsimp only
  have := Bool.toNat_lt d; have := h.isLt; have := k.isLt
  split <;> omega

theorem owed_last (c : Dev nD) : owed c 56 = 0 := by
  unfold owed
  rw [Finset.filter_false_of_mem fun p _ => by have := code_lt p; omega, Finset.sum_empty]

/-- Whatever is owed is owed to the receive cell of a send still to come. -/
theorem owed_pos {c : Dev nD} {n : ℕ} {g : GSem nD τ sig} {u : Unit} (h : 0 < owed c n g u) :
    ∃ p : HK, n ≤ code p ∧ g = rCell (peer c p.1) p.1 p.2.1 p.2.2 := by
  unfold owed at h
  rw [Finset.sum_apply, Finsupp.finset_sum_apply] at h
  obtain ⟨p, hp, h⟩ := Finset.exists_ne_zero_of_sum_ne_zero (Nat.pos_iff_ne_zero.mp h)
  rw [tallyAt_apply] at h
  refine ⟨p, (Finset.mem_filter.mp hp).2, ?_⟩
  by_contra hg
  exact h (if_neg fun e => hg e.1)

/-- What a device owes at launch: its two signals and all its sends. -/
def O₀ (c : Dev nD) : CellTallies nD τ sig Unit :=
  (owed c 0 + tallyAt (barCell (peer c false)) () 1) + tallyAt (barCell (peer c true)) () 1

def L (g : GSem nD τ sig) : Finset Unit := if g.1.2 = .tc then {()} else ∅
/-- The barrier at 1, the receive cells of hop `h` at `2 + h`, the others at 0. -/
def levK : Kind → ℕ
  | .bar => 1
  | .own (.inl (.inr p)) => 2 + p.2.1.val
  | _ => 0
def lv (g : GSem nD τ sig) (_ : Unit) : ℕ := levK (kind g.2)

theorem L_of_ne (g : GSem nD τ sig) (h : g.1.2 ≠ .tc) : L g = ∅ := if_neg h
theorem L_tc (c : Dev nD) (sm : SemLoc sig) : L ((c : Thread nD τ), sm) = {()} := if_pos rfl
theorem lv_r (c : Dev nD) (d : Bool) (h : Fin 7) (k : Fin 4) (u : Unit) : lv (rCell c d h k) u = 2 + h.val := by
  unfold lv; rw [kind_r]; rfl

/-- The sends placed from `8 h` on are those of hop `h` and later. -/
theorem hop_of_code {p : HK} {n h : ℕ} (hn : 8 * h ≤ n) (hp : n ≤ code p) : h ≤ p.2.1.val := by
  obtain ⟨d, h', k⟩ := p
  unfold code at hp; dsimp only at hp ⊢
  have := Bool.toNat_lt d; have := k.isLt
  split at hp <;> omega

/-- A wait on one of its own cells, of level below `2 + h`, while only the sends of hop `h` on are owed. -/
theorem mayWait_owed (c : Dev nD) (sm : SemLoc sig) (n h : ℕ) (hn : 8 * h ≤ n) (hl : levK (kind sm) < 2 + h) :
    (levAts L lv : sProp 𝕄) ⊢ MayWait (c : Thread nD τ) sm () (owed c n) :=
  MayOwe.of_cut (L := L) (lev := lv) (levK (kind sm)) (fun p hp => by rw [Finset.mem_singleton.mp hp, L_tc]; exact Finset.mem_singleton_self _)
    (fun g u hg => by obtain ⟨p, -, rfl⟩ := owed_pos hg; rw [L_tc]; exact Finset.mem_singleton_self _)
    (fun p hp => by rw [Finset.mem_singleton.mp hp]; exact le_rfl)
    (fun g u hg => by obtain ⟨p, hp, rfl⟩ := owed_pos hg; rw [lv_r]; have := hop_of_code hn hp; omega)

end Cert.RingNorm

end
-- ==== Proof.Moves.lean ====
/-
What each step that moves data does: starting a fetch, its arrival, a send, the two waits of a hop.

Each is stated for the step followed by any program `K`: from what the step needs, and from `K` run with what the step
leaves, the step and `K`.
-/
module

public import proofs.«01_k».proof.Proof.Cells
public import Idealize.ShloMosaic.Lib.Tactic

@[expose] public section

noncomputable section

namespace Cert.RingNorm

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The records -/

/-- One member of a family. -/
theorem pick {I : Type} [DecidableEq I] {s : Finset I} {Φ : I → sProp 𝕄} {i : I} (hi : i ∈ s) : (bigSep s Φ : sProp 𝕄) ⊢ Φ i := bigSep_elim hi

def barEmb : Dev nD ↪ GSem nD τ sig := ⟨fun c => barCell c, fun _ _ h => congrArg (fun g : GSem nD τ sig => g.1.1) h⟩
def ownEmb : Dev nD × Own ↪ GSem nD τ sig :=
  ⟨fun co => oCell co.1 co.2, fun _ _ h =>
    Prod.ext (congrArg (fun g : GSem nD τ sig => g.1.1) h) (osem_inj (congrArg Prod.snd h))⟩
/-- The barrier cells; all the other cells. -/
def barCells : Finset (GSem nD τ sig) := Finset.univ.map barEmb
def ownCells : Finset (GSem nD τ sig) := Finset.univ.map ownEmb

theorem bar_mem (c : Dev nD) : barCell c ∈ barCells ∪ ownCells :=
  Finset.mem_union_left _ (Finset.mem_map_of_mem barEmb (Finset.mem_univ c))
theorem own_mem (c : Dev nD) (o : Own) : oCell c o ∈ barCells ∪ ownCells :=
  Finset.mem_union_right _ (Finset.mem_map_of_mem ownEmb (Finset.mem_univ (c, o)))

/-- What every device may consult: all the cells' invariants, and that the barrier cells are open. -/
def records (κ : GSem nD τ sig → ℕ) : sProp 𝕄 :=
  iprop((bigSep (barCells ∪ ownCells) fun g => cellInv ER (sched m) (κ g) g) ∗ bigSep barCells fun g => reached ER g 0)
instance records_persistent (κ : GSem nD τ sig → ℕ) : BI.Persistent (records m κ) := by unfold records; infer_instance

/-- With it the levels, and that its own cells are open. -/
def ctx (κ : GSem nD τ sig → ℕ) (c : Dev nD) : sProp 𝕄 :=
  iprop(records m κ ∗ levAts L lv ∗ bigSep Finset.univ fun o : Own => reached ER (oCell c o) 0)
instance ctx_persistent (κ : GSem nD τ sig → ℕ) (c : Dev nD) : BI.Persistent (ctx m κ c) := by unfold ctx; infer_instance

theorem inv_at (κ : GSem nD τ sig → ℕ) {g : GSem nD τ sig} (hg : g ∈ barCells ∪ ownCells) :
    (records m κ : sProp 𝕄) ⊢ cellInv ER (sched m) (κ g) g := by
  unfold records
  iintro ⟨HI, -⟩
  iapply (pick (Φ := fun g => cellInv ER (sched m) (κ g) g) hg); iexact HI
theorem bar_open (κ : GSem nD τ sig → ℕ) (c : Dev nD) : (records m κ : sProp 𝕄) ⊢ reached ER (barCell c) 0 := by
  unfold records
  iintro ⟨-, HR⟩
  iapply (pick (Φ := fun g => reached ER g 0) (Finset.mem_map_of_mem barEmb (Finset.mem_univ c))); iexact HR
theorem ctx_inv (κ : GSem nD τ sig → ℕ) (c : Dev nD) {g : GSem nD τ sig} (hg : g ∈ barCells ∪ ownCells) :
    (ctx m κ c : sProp 𝕄) ⊢ cellInv ER (sched m) (κ g) g := by
  unfold ctx; iintro ⟨H, -⟩; iapply (inv_at m κ hg); iexact H
theorem ctx_bar (κ : GSem nD τ sig → ℕ) (c c' : Dev nD) : (ctx m κ c : sProp 𝕄) ⊢ reached ER (barCell c') 0 := by
  unfold ctx; iintro ⟨H, -⟩; iapply (bar_open m κ c'); iexact H
theorem ctx_lev (κ : GSem nD τ sig → ℕ) (c : Dev nD) : (ctx m κ c : sProp 𝕄) ⊢ levAts L lv := by
  unfold ctx; iintro ⟨-, H, -⟩; iexact H
theorem ctx_open (κ : GSem nD τ sig → ℕ) (c : Dev nD) (o : Own) : (ctx m κ c : sProp 𝕄) ⊢ reached ER (oCell c o) 0 := by
  unfold ctx; iintro ⟨-, -, H⟩
  iapply (pick (Φ := fun o => reached ER (oCell c o) 0) (Finset.mem_univ o)); iexact H

/-! ## What a device holds for each hop and sub-block -/

/-- To send it: the neighbour's piece, whose cell is open, and the right to pay for both ends. -/
def Tx (c : Dev nD) (d : Bool) (h : Fin 7) (k : Fin 4) : sProp 𝕄 :=
  iprop(recvAny (peer c d) d h k ∗ reached ER (rCell (peer c d) d h k) 0
    ∗ dutyTok ER (sCell c d h k) 0 false ∗ dutyTok ER (rCell (peer c d) d h k) 0 false)
/-- To wait for it: its places on the two cells, and the credit for the arrival. -/
def Rx (c : Dev nD) (d : Bool) (h : Fin 7) (k : Fin 4) : sProp 𝕄 :=
  iprop(atPos ER (sCell c d h k) 0 ∅ 0 ∗ atPos ER (rCell c d h k) 0 ∅ 0 ∗ cred (tallyAt (rCell c d h k) () N))
/-- Once sent: the credit for the send. -/
def Fl (c : Dev nD) (d : Bool) (h : Fin 7) (k : Fin 4) : sProp 𝕄 := cred (tallyAt (sCell c d h k) () N)
/-- Both cells done. -/
def Cl (c : Dev nD) (d : Bool) (h : Fin 7) (k : Fin 4) : sProp 𝕄 :=
  iprop(atPos ER (sCell c d h k) 1 ∅ 0 ∗ atPos ER (rCell c d h k) 1 ∅ 0)
/-- What the device owes once the sends before place `n` are out. -/
def Ow (c : Dev nD) (n : ℕ) : sProp 𝕄 := iprop(∃ W, owes (c : Thread nD τ) (owed c n) W)

/-- The tokens of a staging slot's fetches from round `r` on. -/
def Toks (c : Dev nD) (d : Bool) (s : Fin 2) (r : ℕ) : sProp 𝕄 :=
  bigSep (Finset.Ico r 4) fun r => dutyTok ER (cCell c d s) r false
/-- A staging slot at rest before its round `r`. -/
def Rest (c : Dev nD) (d : Bool) (s : Fin 2) (r : ℕ) : sProp 𝕄 :=
  iprop(atPos ER (cCell c d s) r ∅ 0 ∗ reached ER (cCell c d s) r ∗ Toks c d s r)
/-- A fetch in flight in a slot. -/
def Fly (c : Dev nD) (d : Bool) (s : Fin 2) (r : ℕ) : sProp 𝕄 :=
  iprop(cred (tallyAt (cCell c d s) () NC) ∗ atPos ER (cCell c d s) r ∅ 0 ∗ Toks c d s (r + 1) ∗ srcRest m c d (tOf r s))

/-! ## The steps -/

/-- A program of the body run to `Q` on a device. -/
abbrev WP (c : Dev nD) (p : Pg F) (Ψ : PUnit.{1} → sProp 𝕄) : sProp 𝕄 :=
  wp frame (wpE (defs₀ (F := F)) 𝒱₀ (c : Thread nD τ) none) Set.univ p Ψ

variable (κ : GSem nD τ sig → ℕ) (c : Dev nD) (K : Pg F)

/-- A send: the piece and the neighbour's piece go, the credit comes, the debt falls. -/
theorem send_step {Ψ : PUnit → sProp 𝕄} (d : Bool) (h : Fin 7) (k : Fin 4) (n : ℕ) (hn : n = code (d, h, k)) :
    iprop(ctx m κ c ∗ Tx c d h k ∗ sendAt c d h k (accV m d k h.val c) ∗ Ow c n)
      ⊢ iprop((Fl c d h k ∗ Ow c (n + 1) -∗ WP c K Ψ) -∗ WP c (sendP d c h k K) Ψ) := by
  subst hn
  unfold Tx Ow Fl sendP
  iintro ⟨#Hctx, ⟨⟨%fd, Hd⟩, #Hr, Hts, Htr⟩, ⟨%f, %hf, Hs⟩, ⟨%W, HO⟩⟩ HK
  iapply (Rounds.wp_send_pointsTo 𝒱₀ ER (sched m) (c : Thread nD τ) none (c' := (peer c d : Thread nD τ)) (src := sendV d h k) (dst := recvV d h k)
      (sS := .dma (ssem d h k)) (sem := .dma (rsem d h k)) (q := fullShare) (fs := f) (κ₁ := κ (sCell c d h k)) (κ₂ := κ (rCell (peer c d) d h k))
      (r₁ := 0) (r₂ := 0) (d₁ := false) (d₂ := false) (fd := fd)
      (by rw [duties_s]; exact Finset.mem_singleton_self _) (by rw [duties_r]; exact Finset.mem_singleton_self _)
      () () N (N_recv d h k) (amount_s m c d h k false) (amount_r m (peer c d) d h k false) (owed c (code (d, h, k) + 1)) (owed_step c (d, h, k)) (W := W)
      (by rw [payload_s]; iintro H; iexists f; iexact H)
      (by
        rw [payload_r, peer_back]
        iintro H; iexists ((recvV d h k).view.write (Elt F) fd ((sendV d h k).view.read (Elt F) f) Finset.univ)
        isplitr
        · ipureintro; exact (View.read_write_univ _ _).trans hf
        · iexact H)) $$ [Hs Hd HO Hts Htr]
  · isplitr; · iapply (ctx_inv m κ c (own_mem c (.inl (.inl (d, h, k))))); iexact Hctx
    isplitr; · iapply (ctx_inv m κ c (own_mem (peer c d) (.inl (.inr (d, h, k))))); iexact Hctx
    isplitl [Hs]; · iexact Hs
    isplitl [Hd]; · iexact Hd
    isplitl [HO]; · iexact HO
    isplitl [Hts]; · iexact Hts
    isplitr; · iapply (ctx_open m κ c (.inl (.inl (d, h, k)))); iexact Hctx
    isplitl [Htr]; · iexact Htr
    iexact Hr
  iintro ⟨Hc, HO⟩
  iapply HK
  isplitl [Hc]; · iexact Hc
  iexists W; iexact HO

/-- The two waits of a hop, while only the sends of the next hop on are owed: the piece sent comes back, the neighbour's
    piece is there. -/
theorem join_step {Ψ : PUnit → sProp 𝕄} (d : Bool) (h : Fin 7) (k : Fin 4) (n : ℕ) (hn : 8 * (h.val + 1) ≤ n) :
    iprop(ctx m κ c ∗ Rx c d h k ∗ Fl c d h k ∗ Ow c n)
      ⊢ iprop((Cl c d h k ∗ sendAny c d h k ∗ recvAt c d h k (accV m d k h.val (peer c (!d))) ∗ Ow c n -∗ WP c K Ψ) -∗ WP c (joinP d h k K) Ψ) := by
  unfold Rx Fl Cl Ow joinP
  iintro ⟨#Hctx, ⟨Has, Har, Hcr⟩, Hcs, ⟨%W, HO⟩⟩ HK
  iapply (Rounds.wp_wait_rest_token 𝒱₀ ER (sched m) (c : Thread nD τ) none (κ := κ (sCell c d h k))
      (wpE_waitDma2_eq 𝒱₀ (c : Thread nD τ) none Set.univ) (Set.mem_univ _) () (O := owed c n) (W := W) (R := 0) (m := 0) (T := ∅)
      (by rw [expect_s, N_send, Nat.zero_add])) $$ [Hcs HO Has]
  · isplitr; · iapply (ctx_inv m κ c (own_mem c (.inl (.inl (d, h, k))))); iexact Hctx
    isplitl [Hcs]; · rw [N_send]; iexact Hcs
    isplitl [HO]; · iexact HO
    isplitr
    · iapply (mayWait_owed c (.dma (ssem d h k)) n (h.val + 1) hn (by rw [kind_s]; show 0 < _; omega))
      iapply (ctx_lev m κ c); iexact Hctx
    iexact Has
  iintro ⟨HO, Has, -, Hpay⟩
  ihave Hs := (Entails.of_eq (rest_s m c d h k)) $$ Hpay
  iapply (Rounds.wp_wait_rest_token 𝒱₀ ER (sched m) (c : Thread nD τ) none (κ := κ (rCell c d h k))
      (wpE_waitDma2_eq 𝒱₀ (c : Thread nD τ) none Set.univ) (Set.mem_univ _) () (O := owed c n) (R := 0) (m := 0) (T := ∅)
      (by rw [expect_r, N_recv, Nat.zero_add])) $$ [Hcr HO Har]
  · isplitr; · iapply (ctx_inv m κ c (own_mem c (.inl (.inr (d, h, k))))); iexact Hctx
    isplitl [Hcr]; · rw [N_recv]; iexact Hcr
    isplitl [HO]; · iexact HO
    isplitr
    · iapply (mayWait_owed c (.dma (rsem d h k)) n (h.val + 1) hn (by rw [kind_r]; show 2 + h.val < _; omega))
      iapply (ctx_lev m κ c); iexact Hctx
    iexact Har
  iintro ⟨HO, Har, -, Hpay⟩
  ihave Hr := (Entails.of_eq (rest_r m c d h k)) $$ Hpay
  iapply HK
  isplitl [Has Har]; · isplitl [Has] <;> iassumption
  isplitl [Hs]; · iexact Hs
  isplitl [Hr]; · iexact Hr
  iexists _; iexact HO

/-- A fetch's rows lie in the array. -/
theorem src_split (d : Bool) (t : Fin 8) : (srcAll m c d : sProp 𝕄) ⊢ iprop(srcPart m c d t ∗ srcRest m c d t) :=
  (pointsTo_split_subset (Finset.subset_univ _)).1
theorem src_join (d : Bool) (t : Fin 8) : iprop(srcPart m c d t ∗ srcRest m c d t) ⊢ (srcAll m c d : sProp 𝕄) :=
  (pointsTo_split_subset (Finset.subset_univ _)).2

theorem toks_take (d : Bool) (s : Fin 2) (r : ℕ) (hr : r < 4) :
    (Toks c d s r : sProp 𝕄) = iprop(dutyTok ER (cCell c d s) r false ∗ Toks c d s (r + 1)) := by
  unfold Toks
  rw [show Finset.Ico r 4 = insert r (Finset.Ico (r + 1) 4) from by ext x; simp only [Finset.mem_Ico, Finset.mem_insert]; omega,
    bigSep_insert (by simp)]
  rfl

/-- A fetch starts: its slot and the rows it reads are away until it arrives. -/
theorem fetch_step {Ψ : PUnit → sProp 𝕄} (d : Bool) (s : Fin 2) (r : ℕ) (hr : r < 4) (t : Fin 8) (ht : t = tOf r s) :
    iprop(ctx m κ c ∗ Rest c d s r ∗ slotAny c d s ∗ srcAll m c d)
      ⊢ iprop((Fly m c d s r -∗ WP c K Ψ) -∗ WP c (fetchP d c t s K) Ψ) := by
  subst ht
  unfold Rest Fly fetchP
  rw [toks_take c d s r hr]
  iintro ⟨#Hctx, ⟨Hat, #Hr, Htk, Hts⟩, ⟨%f, Hs⟩, Hsrc⟩ HK
  ihave Hsrc := (src_split m c d (tOf r s)) $$ Hsrc
  icases Hsrc with ⟨Hp, Hq⟩
  iapply (Rounds.wp_copy_pointsTo 𝒱₀ ER (sched m) (c : Thread nD τ) none (src := fetchV d c (tOf r s)) (dst := slotV d s) (sem := .dma (csem d s)) (q := half d)
      (fs := X m c) (fd := f) (r := r) (d := false) (κ := κ (cCell c d s))
      (by rw [duties_c m c d s r hr]; exact Finset.mem_singleton_self _) () NC (NC_slot d s) (amount_c m c d s r false)
      (by
        rw [payload_c]; unfold copyPay
        iintro ⟨H1, H2⟩
        isplitl [H1]
        · iexists ((slotV d s).view.write (Elt F) f ((fetchV d c (tOf r s)).view.read (Elt F) (X m c)) Finset.univ)
          isplitr
          · ipureintro; exact View.read_write_univ _ _
          · iexact H1
        · iexact H2)) $$ [Hp Hs Htk]
  · isplitr; · iapply (ctx_inv m κ c (own_mem c (.inr (d, s)))); iexact Hctx
    isplitl [Hp]; · iexact Hp
    isplitl [Hs]; · iexact Hs
    isplitl [Htk]; · iexact Htk
    iexact Hr
  iintro Hc
  iapply HK
  isplitl [Hc]; · iexact Hc
  isplitl [Hat]; · iexact Hat
  isplitl [Hts]; · iexact Hts
  iexact Hq

/-- The wait for a fetch, whatever of the sends is owed: the slot is filled, the rows are back. -/
theorem arrive_wait {Ψ : PUnit → sProp 𝕄} (d : Bool) (s : Fin 2) (r : ℕ) (hr : r < 4) (n : ℕ)
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (.dma (csem d s)) NC K) :
    iprop(ctx m κ c ∗ Fly m c d s r ∗ Ow c n)
      ⊢ iprop((Rest c d s (r + 1) ∗ slotAt c d s (stgV m d (tOf r s) c) ∗ srcAll m c d ∗ Ow c n -∗ WP c K Ψ) -∗ WP c (.op w fun _ => K) Ψ) := by
  unfold Fly Rest Ow
  iintro ⟨#Hctx, ⟨Hc, Hat, Hts, Hq⟩, ⟨%W, HO⟩⟩ HK
  iapply (Rounds.wp_wait_rest_token 𝒱₀ ER (sched m) (c : Thread nD τ) none (κ := κ (cCell c d s))
      hw (Set.mem_univ _) () (O := owed c n) (W := W) (R := r) (m := 0) (T := ∅)
      (by rw [expect_c m c d s r hr, Nat.zero_add])) $$ [Hc HO Hat]
  · isplitr; · iapply (ctx_inv m κ c (own_mem c (.inr (d, s)))); iexact Hctx
    isplitl [Hc]; · iexact Hc
    isplitl [HO]; · iexact HO
    isplitr
    · iapply (mayWait_owed c (.dma (csem d s)) n 0 (Nat.zero_le _) (by rw [kind_c]; show 0 < _; omega))
      iapply (ctx_lev m κ c); iexact Hctx
    iexact Hat
  iintro ⟨HO, Hat, #Hr, Hpay⟩
  ihave Hp := (Entails.of_eq (rest_c m c d s r hr)) $$ Hpay
  unfold copyPay
  icases Hp with ⟨Hs, Hp⟩
  iapply HK
  isplitl [Hat Hts]
  · isplitl [Hat]; · iexact Hat
    isplitr; · iexact Hr
    iexact Hts
  isplitl [Hs]; · iexact Hs
  isplitl [Hp Hq]
  · iapply (src_join m c d (tOf r s)); isplitl [Hp] <;> iassumption
  iexists _; iexact HO

theorem arrive_step {Ψ : PUnit → sProp 𝕄} (d : Bool) (s : Fin 2) (r : ℕ) (hr : r < 4) (n : ℕ) :
    iprop(ctx m κ c ∗ Fly m c d s r ∗ Ow c n)
      ⊢ iprop((Rest c d s (r + 1) ∗ slotAt c d s (stgV m d (tOf r s) c) ∗ srcAll m c d ∗ Ow c n -∗ WP c K Ψ) -∗ WP c (arriveP d s K) Ψ) :=
  arrive_wait m κ c K d s r hr n (by
    rw [← NC_slot d s]; exact wpE_waitDma2_eq 𝒱₀ (c : Thread nD τ) none Set.univ)

end Cert.RingNorm

end
-- ==== Proof.Places.lean ====
/-
Where the pieces of the buffers lie: a sub-block within a hop, a sub-block within a staging slot, the pieces a buffer is
cut into; and what is read through a piece after a store through the rectangle around it.
-/
module

public import proofs.«01_k».proof.Proof.Cells
public import Idealize.ShloMosaic.Lib.Tactic
public import Idealize.ShloMosaic.Lib.ValueIdx
public import Idealize.ShloMosaic.Lib.ValueLayout
public import Idealize.ShloMosaic.Lib.Pipeline.ValueKit.Geometry

@[expose] public section

noncomputable section

namespace Cert.RingNorm

open Cert.KernelIdeal Cert.KernelIdeal.Gen

open Idealize.ShloMosaic Idealize.ShloMosaic.TcCoe Idealize.ShloMosaic.Tactic Idealize.ShloMosaic.ValueIdx

variable {F : FTy → Type} [FloatOps F]

/-! ## The pieces -/

/-- The index of a half's row that is row `i 0` of sub-block `k`. -/
def rowIx (k : Fin 4) (i : S128x1024.Idx) : S512x1024.Idx :=
  ix2 (⟨128 * k.val + (i 0).val, by have := (i 0).isLt; have := k.isLt; change (i 0).val < 128 at *; omega⟩ : Fin 512) (i 1)

theorem rows_apply {α : Type} (k : Fin 4) (v : S512x1024.Idx → α) (i : S128x1024.Idx) : rows k v i = v (rowIx k i) := rfl

/-- Two unit rectangles of rank 3 place two indices at the same element when the coordinates sum alike. -/
theorem emb_agree {s : Shape} {off off' size size' : Fin s.rank → ℕ} (inb) (inb')
    (x : (Rect.unit (s := s) off size inb).shape.Idx) (y : (Rect.unit (s := s) off' size' inb').shape.Idx)
    (h : ∀ a, off a + (x a : ℕ) = off' a + (y a : ℕ)) :
    (Rect.unit (s := s) off size inb).emb x = (Rect.unit (s := s) off' size' inb').emb y :=
  funext fun a => Fin.ext (by rw [ValueKit.rect_emb_unit_val, ValueKit.rect_emb_unit_val]; exact h a)

/-- Row `i` of a sub-block, in the shapes a buffer is read at. -/
abbrev up128 (i : S128x1024.Idx) : S1x128x1024.Idx := Shape.reshapeEquiv (squeezes_S1x128x1024_S128x1024 : S1x128x1024.Squeezes S128x1024).numel_eq i
abbrev up512 (i : S512x1024.Idx) : S1x512x1024.Idx := Shape.reshapeEquiv (squeezes_S1x512x1024_S512x1024 : S1x512x1024.Squeezes S512x1024).numel_eq i

theorem up128_val (i : S128x1024.Idx) : ∀ a : Fin 3, ((up128 i) a : ℕ) = (![0, (i 0).val, (i 1).val] : Fin 3 → ℕ) a := by
  have e : up128 i = ix3 (⟨0, Nat.one_pos⟩ : Fin 1) (i 0 : Fin 128) (i 1 : Fin 1024) :=
    (congrArg up128 (eq_ix2 i)).trans (reshapeEquiv_ix2_1ab _ (i 0 : Fin 128) (i 1 : Fin 1024))
  rw [e]
  exact Fin.forall_fin_succ.mpr ⟨rfl, Fin.forall_fin_two.mpr ⟨rfl, rfl⟩⟩
theorem up512_val (i : S512x1024.Idx) : ∀ a : Fin 3, ((up512 i) a : ℕ) = (![0, (i 0).val, (i 1).val] : Fin 3 → ℕ) a := by
  have e : up512 i = ix3 (⟨0, Nat.one_pos⟩ : Fin 1) (i 0 : Fin 512) (i 1 : Fin 1024) :=
    (congrArg up512 (eq_ix2 i)).trans (reshapeEquiv_ix2_1ab _ (i 0 : Fin 512) (i 1 : Fin 1024))
  rw [e]
  exact Fin.forall_fin_succ.mpr ⟨rfl, Fin.forall_fin_two.mpr ⟨rfl, rfl⟩⟩

/-- A sub-block of hop 0 lies in hop 0 at its rows. -/
theorem hk_first (k : Fin 4) (i : S128x1024.Idx) : (hkR 0 k).emb (up128 i) = firstR.emb (up512 (rowIx k i)) := by
  refine emb_agree _ _ _ _ fun a => ?_
  rw [up128_val i a, up512_val (rowIx k i) a]
  revert a
  refine Fin.forall_fin_succ.mpr ⟨rfl, Fin.forall_fin_two.mpr ⟨?_, rfl⟩⟩
  show 128 * k.val + (i 0).val = 0 + (128 * k.val + (i 0).val)
  omega

/-- A sub-block of a slot lies in the slot at its rows. -/
theorem slotk_slot (s : Fin 2) (k : Fin 4) (i : S128x1024.Idx) : (slotkR s k).emb (up128 i) = (slotR s).emb (up512 (rowIx k i)) := by
  refine emb_agree _ _ _ _ fun a => ?_
  rw [up128_val i a, up512_val (rowIx k i) a]
  revert a
  refine Fin.forall_fin_succ.mpr ⟨rfl, Fin.forall_fin_two.mpr ⟨?_, rfl⟩⟩
  show 128 * k.val + (i 0).val = 0 + (128 * k.val + (i 0).val)
  omega

/-! ## The buffers cut into their pieces -/

theorem hk_disj (p q : Fin 7 × Fin 4) (h : p ≠ q) : Disjoint (hkR p.1 p.2).set (hkR q.1 q.2).set := by
  rw [Finset.disjoint_left]
  intro i hi hj
  rw [Rect.mem_set_unit] at hi hj
  have a0 := hi 0; have a1 := hi 1; have b0 := hj 0; have b1 := hj 1
  change p.1.val ≤ (i 0).val ∧ (i 0).val < p.1.val + 1 at a0
  change q.1.val ≤ (i 0).val ∧ (i 0).val < q.1.val + 1 at b0
  change 128 * p.2.val ≤ (i 1).val ∧ (i 1).val < 128 * p.2.val + 128 at a1
  change 128 * q.2.val ≤ (i 1).val ∧ (i 1).val < 128 * q.2.val + 128 at b1
  exact h (Prod.ext (Fin.ext (by omega)) (Fin.ext (by omega)))

theorem hk_mem (i : S7x512x1024.Idx) : ∃ p : Fin 7 × Fin 4, i ∈ (hkR p.1 p.2).set := by
  have h0 : (i 0).val < 7 := (i 0).isLt
  have h1 : (i 1).val < 512 := (i 1).isLt
  have h2 : (i 2).val < 1024 := (i 2).isLt
  refine ⟨(⟨(i 0).val, h0⟩, ⟨(i 1).val / 128, by omega⟩), Rect.mem_set_unit.mpr ?_⟩
  refine Fin.forall_fin_succ.mpr ⟨⟨Nat.le_refl _, Nat.lt_succ_self _⟩, Fin.forall_fin_two.mpr ⟨?_, ?_⟩⟩
  · show 128 * ((i 1).val / 128) ≤ (i 1).val ∧ (i 1).val < 128 * ((i 1).val / 128) + 128
    omega
  · show 0 ≤ (i 2).val ∧ (i 2).val < 0 + 1024
    omega

theorem hk_cover : (Finset.univ.biUnion fun p : Fin 7 × Fin 4 => (hkR p.1 p.2).set) = Finset.univ :=
  Finset.eq_univ_of_forall fun i => by
    obtain ⟨p, hp⟩ := hk_mem i
    exact Finset.mem_biUnion.mpr ⟨p, Finset.mem_univ _, hp⟩

theorem first_cover : (Finset.univ.biUnion fun k : Fin 4 => (hkR 0 k).set) = firstR.set := by
  ext i
  rw [Finset.mem_biUnion, Rect.mem_set_unit]
  constructor
  · rintro ⟨k, -, hk⟩
    rw [Rect.mem_set_unit] at hk
    have hk3 := k.isLt
    refine Fin.forall_fin_succ.mpr ⟨hk 0, Fin.forall_fin_two.mpr ⟨?_, hk 2⟩⟩
    have h1 := hk 1
    change 128 * k.val ≤ (i 1).val ∧ (i 1).val < 128 * k.val + 128 at h1
    show 0 ≤ (i 1).val ∧ (i 1).val < 0 + 512
    omega
  · intro h
    have h1 : (i 1).val < 512 := (i 1).isLt
    refine ⟨⟨(i 1).val / 128, by omega⟩, Finset.mem_univ _, Rect.mem_set_unit.mpr ?_⟩
    refine Fin.forall_fin_succ.mpr ⟨h 0, Fin.forall_fin_two.mpr ⟨?_, h 2⟩⟩
    show 128 * ((i 1).val / 128) ≤ (i 1).val ∧ (i 1).val < 128 * ((i 1).val / 128) + 128
    omega

theorem slot_disj (s s' : Fin 2) (h : s ≠ s') : Disjoint (slotR s).set (slotR s').set := by
  rw [Finset.disjoint_left]
  intro i hi hj
  rw [Rect.mem_set_unit] at hi hj
  have a0 := hi 0; have b0 := hj 0
  change s.val ≤ (i 0).val ∧ (i 0).val < s.val + 1 at a0
  change s'.val ≤ (i 0).val ∧ (i 0).val < s'.val + 1 at b0
  exact h (Fin.ext (by omega))

theorem slot_cover : (Finset.univ.biUnion fun s : Fin 2 => (slotR s).set) = Finset.univ :=
  Finset.eq_univ_of_forall fun i => by
    have h0 : (i 0).val < 2 := (i 0).isLt
    have h1 : (i 1).val < 512 := (i 1).isLt
    have h2 : (i 2).val < 1024 := (i 2).isLt
    refine Finset.mem_biUnion.mpr ⟨⟨(i 0).val, h0⟩, Finset.mem_univ _, Rect.mem_set_unit.mpr ?_⟩
    refine Fin.forall_fin_succ.mpr ⟨⟨Nat.le_refl _, Nat.lt_succ_self _⟩, Fin.forall_fin_two.mpr ⟨?_, ?_⟩⟩
    · show 0 ≤ (i 1).val ∧ (i 1).val < 0 + 512
      omega
    · show 0 ≤ (i 2).val ∧ (i 2).val < 0 + 1024
      omega

theorem slotk_sub (s : Fin 2) (k : Fin 4) : (slotkR s k).set ⊆ (slotR s).set := by
  intro i hi
  rw [Rect.mem_set_unit] at hi ⊢
  refine Fin.forall_fin_succ.mpr ⟨hi 0, Fin.forall_fin_two.mpr ⟨?_, hi 2⟩⟩
  have h1 := hi 1
  have hk := k.isLt
  change 128 * k.val ≤ (i 1).val ∧ (i 1).val < 128 * k.val + 128 at h1
  show 0 ≤ (i 1).val ∧ (i 1).val < 0 + 512
  omega

theorem outR_disj (d d' : Bool) (k k' : Fin 4) (h : (d, k) ≠ (d', k')) : Disjoint (outR d k).set (outR d' k').set := by
  rw [Finset.disjoint_left]
  intro i hi hj
  rw [Rect.mem_set_unit] at hi hj
  have a0 := hi 0; have b0 := hj 0
  have hk := k.isLt; have hk' := k'.isLt
  change 512 * d.toNat + 128 * k.val ≤ (i 0).val ∧ (i 0).val < 512 * d.toNat + 128 * k.val + 128 at a0
  change 512 * d'.toNat + 128 * k'.val ≤ (i 0).val ∧ (i 0).val < 512 * d'.toNat + 128 * k'.val + 128 at b0
  have e : d = d' := by
    cases d <;> cases d' <;> first | rfl | (simp only [Bool.toNat_false, Bool.toNat_true] at a0 b0; omega)
  subst e
  exact h (Prod.ext rfl (Fin.ext (by show k.val = k'.val; omega)))

/-! ## The views' element sets -/

theorem sendV_set (d : Bool) (h : Fin 7) (k : Fin 4) : (sendV d h k).view.set = ((sendM d).access (hkR h k)).set := View.set_reshape _ _
theorem recvV_set (d : Bool) (h : Fin 7) (k : Fin 4) : (recvV d h k).view.set = ((recvM d).access (hkR h k)).set := View.set_reshape _ _
theorem slotV_set (d : Bool) (s : Fin 2) : (slotV d s).view.set = ((stageM d).access (slotR s)).set := View.set_reshape _ _

/-! ## What a piece reads -/

/-- A slot's sub-block reads the rows of the slot. -/
theorem slotk_read (d : Bool) (s : Fin 2) (k : Fin 4) (f) :
    shapeCast S128x1024 (((stageM d).access (slotkR s k)).read (Elt F) f) shapeCasts_S1x128x1024_S128x1024
      = rows k ((slotV d s).view.read (Elt F) f) := by
  funext i
  show ((stageM d).access (slotkR s k)).read (Elt F) f (up128 i) = (slotV d s).view.read (Elt F) f (rowIx k i)
  rw [View.read_apply, View.read_apply]
  exact congrArg (fun x => _root_.cast _ (f ((stageM d).view.emb x))) (slotk_slot s k i)

/-- A whole slot read. -/
theorem slot_read (d : Bool) (s : Fin 2) (f) :
    shapeCast S512x1024 (((stageM d).access (slotR s)).read (Elt F) f) shapeCasts_S1x512x1024_S512x1024 = (slotV d s).view.read (Elt F) f := rfl

/-- A received sub-block read. -/
theorem recv_read (d : Bool) (h : Fin 7) (k : Fin 4) (f) :
    shapeCast S128x1024 (((recvM d).access (hkR h k)).read (Elt F) f) shapeCasts_S1x128x1024_S128x1024 = (recvV d h k).view.read (Elt F) f := rfl

/-- A sub-block stored, then read. -/
theorem send_write (d : Bool) (h : Fin 7) (k : Fin 4) (f) (w : FVec F S128x1024 .bf16) :
    (sendV d h k).view.read (Elt F) (((sendM d).access (hkR h k)).write (Elt F) f (shapeCast S1x128x1024 w shapeCasts_S128x1024_S1x128x1024) Finset.univ) = w := by
  funext i
  show ((sendM d).access (hkR h k)).read (Elt F) _ (up128 i) = w i
  rw [View.read_write_univ]
  show w (Shape.reshapeEquiv _ (Shape.reshapeEquiv _ i)) = w i
  rw [Shape.reshapeEquiv_reshapeEquiv, Shape.reshapeEquiv_self]

/-- The whole of hop 0 stored, a sub-block read. -/
theorem first_write (d : Bool) (k : Fin 4) (f) (w : FVec F S512x1024 .bf16) :
    (sendV d 0 k).view.read (Elt F) (((sendM d).access firstR).write (Elt F) f (shapeCast S1x512x1024 w shapeCasts_S512x1024_S1x512x1024) Finset.univ) = rows k w := by
  funext i
  have e : (sendV d 0 k).view.read (Elt F) (((sendM d).access firstR).write (Elt F) f (shapeCast S1x512x1024 w shapeCasts_S512x1024_S1x512x1024) Finset.univ) i
      = ((sendM d).access firstR).read (Elt F) (((sendM d).access firstR).write (Elt F) f (shapeCast S1x512x1024 w shapeCasts_S512x1024_S1x512x1024) Finset.univ) (up512 (rowIx k i)) := by
    rw [View.read_apply, View.read_apply]
    exact congrArg (fun x => _root_.cast _ ((((sendM d).access firstR).write (Elt F) f (shapeCast S1x512x1024 w shapeCasts_S512x1024_S1x512x1024) Finset.univ) ((sendM d).view.emb x))) (hk_first k i)
  rw [e, View.read_write_univ]
  show w (Shape.reshapeEquiv _ (Shape.reshapeEquiv _ (rowIx k i))) = w (rowIx k i)
  rw [Shape.reshapeEquiv_reshapeEquiv, Shape.reshapeEquiv_self]

end Cert.RingNorm

end
-- ==== Proof.Adds.lean ====
/-
What each step that computes does: the first rounding, an addition, the normalisation; and the barrier; then a hop of
one sub-block, put together.
-/
module

public import proofs.«01_k».proof.Proof.Moves
public import proofs.«01_k».proof.Proof.Places
public import Idealize.ShloMosaic.Lib.Ring

@[expose] public section

noncomputable section

namespace Cert.RingNorm

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Values -/

theorem cast_back {s t : Shape} {α : Type} (v : s.Idx → α) (h : s.ShapeCasts t) (h' : t.ShapeCasts s) :
    shapeCast s (shapeCast t v h) h' = v := by
  funext i
  show v (Shape.reshapeEquiv _ (Shape.reshapeEquiv _ i)) = v i
  rw [Shape.reshapeEquiv_reshapeEquiv, Shape.reshapeEquiv_self]

/-- The scale's rectangle. -/
abbrev gamR : Rect S1x1024 := Rect.unit (s := S1x1024) ![0, 0] S1x1024.size inb_S1x1024_S1x1024_0_0

/-- What the last hop makes of the sum received, its own rows and the scale. -/
def normV (v : FVec F S128x1024 .bf16) (w : FVec F S128x1024 .f32) (g : Vec F S1x1024 .f32) : FVec F S128x1024 .f32 :=
  k0_pay66 (shapeCast S1x128x1024 v shapeCasts_S128x1024_S1x128x1024) (shapeCast S1x128x1024 w shapeCasts_S128x1024_S1x128x1024) g

/-- The result's sub-block `k` of ring `d` on device `c`. -/
def finV (c : Dev nD) (g : Vec F S1x1024 .f32) (p : Bool × Fin 4) : FVec F S128x1024 .f32 :=
  normV (accV m p.1 p.2 6 (peer c (!p.1))) (rows p.2 (stgV m p.1 7 c)) g

/-- The staged scale. -/
abbrev gamAt (c : Dev nD) (fg : Buf (Elt F) (gamM.view.loc (c : Thread nD τ))) : sProp 𝕄 := iprop(gamM.view.loc (c : Thread nD τ) ↦{fullShare} fg)
/-- The staged result, the sub-blocks `P` of it at their values. -/
abbrev outAt (c : Dev nD) (P : Finset (Bool × Fin 4)) (val : Bool × Fin 4 → FVec F S128x1024 .f32) : sProp 𝕄 :=
  iprop(∃ f : Buf (Elt F) (outM.view.loc (c : Thread nD τ)), ⌜∀ p ∈ P, (outM.access (outR p.1 p.2)).read (Elt F) f = val p⌝
    ∗ (outM.view.loc (c : Thread nD τ) ↦{fullShare} f))

variable (κ : GSem nD τ sig → ℕ) (c : Dev nD) (K : Pg F)

/-! ## The additions -/

theorem send_sub (d : Bool) (h : Fin 7) (k : Fin 4) (M) : ((sendM d).access (hkR h k)).setOn M ⊆ (sendV d h k).view.set := by
  rw [sendV_set]; exact Finset.map_subset_map.mpr (Finset.subset_univ _)

theorem add_step {Ψ : PUnit → sProp 𝕄} (d : Bool) (h h' : Fin 7) (s : Fin 2) (k : Fin 4) (A : FVec F S128x1024 .bf16) (V : FVec F S512x1024 .f32) :
    iprop(recvAt c d h k A ∗ slotAt c d s V ∗ sendAny c d h' k)
      ⊢ iprop((recvAt c d h k A ∗ slotAt c d s V ∗ sendAt c d h' k (addf A (truncf .bf16 (rows k V) bitsLt_bf16_f32)) -∗ WP c K Ψ)
        -∗ WP c (addP d h h' s k K) Ψ) := by
  unfold addP
  iintro ⟨⟨%fr, %hr, Hr⟩, ⟨%fs, %hs, Hs⟩, ⟨%f, H⟩⟩ HK
  iapply (wp_load_rect 𝒱₀ (c : Thread nD τ) none Set.univ (m := recvM d) (r := hkR h k) (S := (recvV d h k).view.set) (f := fr)
    (recvV_set d h k).ge) $$ Hr
  iintro Hr
  iapply (wp_load_rect 𝒱₀ (c : Thread nD τ) none Set.univ (m := stageM d) (r := slotkR s k) (S := (slotV d s).view.set) (f := fs)
    (by rw [slotV_set, View.set_slice, View.set_slice]; exact Finset.map_subset_map.mpr (slotk_sub s k))) $$ Hs
  iintro Hs
  iapply (wp_load_rect 𝒱₀ (c : Thread nD τ) none Set.univ (m := sendM d) (r := hkR h' k) (S := (sendV d h' k).view.set) (f := f)
    (sendV_set d h' k).ge) $$ H
  iintro H
  iapply (wp_store 𝒱₀ (c : Thread nD τ) none Set.univ (m := sendM d) (r := hkR h' k) (S := (sendV d h' k).view.set) (f := f)
    (send_sub d h' k _)) $$ H
  iintro H
  iapply HK
  isplitl [Hr]
  · iexists fr; isplitr
    · ipureintro; exact hr
    · iexact Hr
  isplitl [Hs]
  · iexists fs; isplitr
    · ipureintro; exact hs
    · iexact Hs
  iexists (((sendM d).access (hkR h' k)).write (Elt F) f (k0_pay4 (((recvM d).access (hkR h k)).read (Elt F) fr) (((stageM d).access (slotkR s k)).read (Elt F) fs)) Finset.univ)
  isplitr
  · ipureintro
    unfold k0_pay4
    rw [send_write, slotk_read, hs]
    exact congrArg (fun x => addf x _) ((recv_read d h k fr).trans hr)
  · iexact H

/-! ## The first rounding -/

/-- The rectangles that make up one, through a view. -/
theorem union_slice {κ : Idealize.ShloMosaic.Kind} {sp : Space} {s : Shape} {e : EltTy} {B : Type} [Fintype B] [DecidableEq B] (v : View sig κ sp s e)
    (R : B → Rect s) (r : Rect s) (h : (Finset.univ.biUnion fun b => (R b).set) = r.set) :
    (Finset.univ.biUnion fun b => (v.slice (R b)).set) = (v.slice r).set := by
  simp only [View.set_slice, ← h, Finset.map_eq_image, Finset.biUnion_image, Finset.image_biUnion]

theorem first_union (d : Bool) : (Finset.univ.biUnion fun k : Fin 4 => (sendV d 0 k).view.set) = ((sendM d).access firstR).set := by
  rw [← union_slice (sendM d).view (fun k : Fin 4 => hkR 0 k) firstR first_cover]
  exact Finset.biUnion_congr rfl fun k _ => sendV_set d 0 k

/-- The four pieces of hop 0 of a send buffer, together. -/
theorem first_join (d : Bool) (f₀ : Buf (Elt F) ((sendM d).view.loc (c : Thread nD τ))) : (bigSep Finset.univ fun k : Fin 4 => sendAny (F := F) c d 0 k)
    ⊢ (iprop(∃ g : Buf (Elt F) ((sendM d).view.loc (c : Thread nD τ)), ((sendM d).view.loc (c : Thread nD τ) ↦[((sendM d).access firstR).set]{fullShare} g)) : sProp 𝕄) :=
  Ring.pointsTo_sub_blocks_join_exists (ℓ := (sendM d).view.loc (c : Thread nD τ)) (fun k : Fin 4 => (sendV d 0 k).view.set)
    (fun k k' hk => by
      show Disjoint (sendV d 0 k).view.set (sendV d 0 k').view.set
      rw [sendV_set, sendV_set, View.set_slice, View.set_slice]
      exact (Finset.disjoint_map _).mpr (hk_disj (0, k) (0, k') fun e => hk (congrArg Prod.snd e)))
    _ (first_union d) f₀

theorem first_split (d : Bool) (g : Buf (Elt F) ((sendM d).view.loc (c : Thread nD τ))) :
    (iprop(((sendM d).view.loc (c : Thread nD τ) ↦[((sendM d).access firstR).set]{fullShare} g)) : sProp 𝕄)
      = bigSep Finset.univ fun k : Fin 4 => ((sendV d 0 k).view.loc (c : Thread nD τ) ↦[(sendV d 0 k).view.set]{fullShare} g) :=
  Ring.pointsTo_sub_blocks (ℓ := (sendM d).view.loc (c : Thread nD τ)) (fun k : Fin 4 => (sendV d 0 k).view.set)
    (fun k k' hk => by
      show Disjoint (sendV d 0 k).view.set (sendV d 0 k').view.set
      rw [sendV_set, sendV_set, View.set_slice, View.set_slice]
      exact (Finset.disjoint_map _).mpr (hk_disj (0, k) (0, k') fun e => hk (congrArg Prod.snd e)))
    _ (first_union d) g

theorem first_back (d : Bool) (g : Buf (Elt F) ((sendM d).view.loc (c : Thread nD τ))) (fs) (hs : (slotV d 0).view.read (Elt F) fs = stgV m d 0 c) :
    (iprop(((sendM d).view.loc (c : Thread nD τ) ↦[((sendM d).access firstR).set]{fullShare}
      (((sendM d).access firstR).write (Elt F) g (k0_pay2 (((stageM d).access (slotR 0)).read (Elt F) fs)) Finset.univ))) : sProp 𝕄)
      ⊢ bigSep Finset.univ fun k : Fin 4 => sendAt c d 0 k (accV m d k 0 c) := by
  rw [first_split]
  refine bigSep_mono fun k _ => ?_
  show (iprop((sendV d 0 k).view.loc (c : Thread nD τ) ↦[(sendV d 0 k).view.set]{fullShare}
      (((sendM d).access firstR).write (Elt F) g (k0_pay2 (((stageM d).access (slotR 0)).read (Elt F) fs)) Finset.univ)) : sProp 𝕄)
    ⊢ sendAt c d 0 k (accV m d k 0 c)
  iintro H
  iexists (((sendM d).access firstR).write (Elt F) g (k0_pay2 (((stageM d).access (slotR 0)).read (Elt F) fs)) Finset.univ)
  isplitr
  · ipureintro
    unfold k0_pay2
    rw [first_write]
    exact congrArg (fun V => truncf (F := F) .bf16 (rows k V) bitsLt_bf16_f32) ((slot_read d 0 fs).trans hs)
  · iexact H

theorem first_step {Ψ : PUnit → sProp 𝕄} (d : Bool) (n : ℕ) :
    iprop(ctx m κ c ∗ Fly m c d 0 0 ∗ Ow c n ∗ bigSep Finset.univ fun k : Fin 4 => sendAny c d 0 k)
      ⊢ iprop((Rest c d 0 1 ∗ slotAny c d 0 ∗ srcAll m c d ∗ Ow c n ∗ (bigSep Finset.univ fun k : Fin 4 => sendAt c d 0 k (accV m d k 0 c)) -∗ WP c K Ψ)
        -∗ WP c (firstP d c K) Ψ) := by
  unfold firstP
  iintro ⟨Hctx, Hfly, HO, Hs⟩ HK
  iapply (arrive_wait m κ c _ d 0 0 (by decide) n (by
    rw [← NC_slot d 0]; exact wpE_waitDma2_eq 𝒱₀ (c : Thread nD τ) none Set.univ)) $$ [Hctx Hfly HO]
  · isplitl [Hctx]; · iexact Hctx
    isplitl [Hfly]; · iexact Hfly
    iexact HO
  iintro ⟨Hrest, ⟨%fs, %hs, Hslot⟩, Hsrc, HO⟩
  ihave Hs := (first_join c d (m _)) $$ Hs
  icases Hs with ⟨%g, Hs⟩
  iapply (wp_load_rect 𝒱₀ (c : Thread nD τ) none Set.univ (m := stageM d) (r := slotR 0) (S := (slotV d 0).view.set) (f := fs)
    (slotV_set d 0).ge) $$ Hslot
  iintro Hslot
  iapply (wp_load_rect 𝒱₀ (c : Thread nD τ) none Set.univ (m := sendM d) (r := firstR) (f := g) (Finset.Subset.refl _)) $$ Hs
  iintro Hs
  iapply (wp_store 𝒱₀ (c : Thread nD τ) none Set.univ (m := sendM d) (r := firstR) (S := ((sendM d).access firstR).set) (f := g)
    (Finset.map_subset_map.mpr (Finset.subset_univ _))) $$ Hs
  iintro Hs
  iapply HK
  isplitl [Hrest]; · iexact Hrest
  isplitl [Hslot]; · iexists fs; iexact Hslot
  isplitl [Hsrc]; · iexact Hsrc
  isplitl [HO]; · iexact HO
  iapply (first_back m c d g fs hs)
  iexact Hs

/-! ## The normalisation -/

/-- A sub-block of the result is not changed by the store of another. -/
theorem out_keep (p q : Bool × Fin 4) (h : p ≠ q) (f : outM.view.ty.Contents (Elt F)) (w : (outR q.1 q.2).shape.Idx → Elt F .f32) :
    (outM.access (outR p.1 p.2)).read (Elt F) ((outM.access (outR q.1 q.2)).write (Elt F) f w Finset.univ) = (outM.access (outR p.1 p.2)).read (Elt F) f := by
  refine View.read_slice_write_slice_of_disjoint (v := outM.view) (outR p.1 p.2) (outR q.1 q.2) f w Finset.univ ?_
  show Disjoint (outM.view.slice (outR p.1 p.2)).set (outM.view.slice (outR q.1 q.2)).set
  rw [View.set_slice, View.set_slice]
  exact (Finset.disjoint_map _).mpr (outR_disj p.1 q.1 p.2 q.2 h)

theorem norm_step {Ψ : PUnit → sProp 𝕄} (d : Bool) (k : Fin 4) (fg : Buf (Elt F) (gamM.view.loc (c : Thread nD τ))) (P : Finset (Bool × Fin 4))
    (val : Bool × Fin 4 → FVec F S128x1024 .f32) (A : FVec F S128x1024 .bf16) (V : FVec F S512x1024 .f32)
    (hval : val (d, k) = normV A (rows k V) ((gamM.access gamR).read (Elt F) fg)) (hP : (d, k) ∉ P) :
    iprop(recvAt c d 6 k A ∗ slotAt c d 1 V ∗ gamAt c fg ∗ outAt c P val)
      ⊢ iprop((recvAt c d 6 k A ∗ slotAt c d 1 V ∗ gamAt c fg ∗ outAt c (insert (d, k) P) val -∗ WP c K Ψ) -∗ WP c (normP d k K) Ψ) := by
  unfold normP
  iintro ⟨⟨%fr, %hr, Hr⟩, ⟨%fs, %hs, Hs⟩, Hg, ⟨%f, %hf, H⟩⟩ HK
  iapply (wp_load_rect 𝒱₀ (c : Thread nD τ) none Set.univ (m := recvM d) (r := hkR 6 k) (S := (recvV d 6 k).view.set) (f := fr)
    (recvV_set d 6 k).ge) $$ Hr
  iintro Hr
  iapply (wp_load_rect 𝒱₀ (c : Thread nD τ) none Set.univ (m := stageM d) (r := slotkR 1 k) (S := (slotV d 1).view.set) (f := fs)
    (by rw [slotV_set, View.set_slice, View.set_slice]; exact Finset.map_subset_map.mpr (slotk_sub 1 k))) $$ Hs
  iintro Hs
  iapply (wp_load_rect 𝒱₀ (c : Thread nD τ) none Set.univ (m := gamM) (r := gamR) (S := Finset.univ) (f := fg) (Finset.subset_univ _)) $$ Hg
  iintro Hg
  iapply (wp_load_rect 𝒱₀ (c : Thread nD τ) none Set.univ (m := outM) (r := outR d k) (S := Finset.univ) (f := f) (Finset.subset_univ _)) $$ H
  iintro H
  iapply (wp_store 𝒱₀ (c : Thread nD τ) none Set.univ (m := outM) (r := outR d k) (S := Finset.univ) (f := f) (Finset.subset_univ _)) $$ H
  iintro H
  iapply HK
  isplitl [Hr]
  · iexists fr; isplitr
    · ipureintro; exact hr
    · iexact Hr
  isplitl [Hs]
  · iexists fs; isplitr
    · ipureintro; exact hs
    · iexact Hs
  isplitl [Hg]; · iexact Hg
  iexists ((outM.access (outR d k)).write (Elt F) f (k0_pay66 (((recvM d).access (hkR 6 k)).read (Elt F) fr) (((stageM d).access (slotkR 1 k)).read (Elt F) fs) ((gamM.access gamR).read (Elt F) fg)) Finset.univ)
  isplitr
  · ipureintro
    intro p hp
    rcases Finset.mem_insert.mp hp with rfl | hp
    · rw [hval]
      refine (View.read_write_univ _ _).trans ?_
      unfold normV
      rw [← hs, ← hr, ← slotk_read, ← recv_read, cast_back, cast_back]
    · rw [← hf p hp]
      exact out_keep p (d, k) (fun e => hP (e ▸ hp)) f _
  · iexact H

/-! ## The barrier -/

/-- A ring's receive buffer, piece by piece. -/
def recvs (c : Dev nD) (d : Bool) : sProp 𝕄 := bigSep Finset.univ fun hk : Fin 7 × Fin 4 => recvAny c d hk.1 hk.2

/-- A device's own pieces are what it pays at the neighbour a ring receives from. -/
theorem bar_pay (d : Bool) : iprop(ctx m κ c ∗ recvs c d) ⊢ (barPay (F := F) (peer c (!d)) d : sProp 𝕄) := by
  unfold recvs barPay
  rw [peer_back']
  refine bigSep_with_persistent fun hk _ => ?_
  show (iprop(ctx m κ c ∗ recvAny c d hk.1 hk.2) : sProp 𝕄) ⊢ iprop(recvAny c d hk.1 hk.2 ∗ reached ER (rCell c d hk.1 hk.2) 0)
  iintro ⟨#Hctx, H⟩
  isplitl [H]; · iexact H
  iapply (ctx_open m κ c (.inl (.inr (d, hk.1, hk.2)))); iexact Hctx

theorem barrier_step {Ψ : PUnit → sProp 𝕄} :
    iprop(ctx m κ c ∗ cred (tallyAt (barCell c) () 2) ∗ atPos ER (barCell c) 0 ∅ 0 ∗ dutyTok ER (barCell (peer c true)) 0 false
      ∗ dutyTok ER (barCell (peer c false)) 0 true ∗ recvs c false ∗ recvs c true ∗ (∃ W, owes (c : Thread nD τ) (O₀ c) W))
      ⊢ iprop((atPos ER (barCell c) 1 ∅ 0 ∗ barPay c false ∗ barPay c true ∗ Ow c 0 -∗ WP c K Ψ) -∗ WP c (barrierP c K) Ψ) := by
  unfold barrierP O₀ Ow
  rw [dev1_eq, dev2_eq]
  iintro ⟨#Hctx, Hc, Hat, Ht1, Ht2, Hr1, Hr2, ⟨%W, HO⟩⟩ HK
  iapply (Rounds.wp_signal 𝒱₀ ER (sched m) (c : Thread nD τ) none (dst := (peer c true : Thread nD τ)) (sem := barS) (r := 0) (d := false) (κ := κ (barCell (peer c true)))
      (by rw [duties_bar]; exact Finset.mem_univ _) ((amount_bar m (peer c true) false).trans (by decide)) () (owed c 0 + tallyAt (barCell (peer c false)) () 1) rfl)
    $$ [HO Ht1 Hr1]
  · isplitr; · iapply (ctx_inv m κ c (bar_mem (peer c true))); iexact Hctx
    isplitl [HO]; · iexact HO
    isplitl [Ht1]; · iexact Ht1
    isplitl [Hr1]
    · rw [payload_bar]; iapply (bar_pay m κ c false); isplitr; · iexact Hctx
      iexact Hr1
    iapply (ctx_bar m κ c (peer c true)); iexact Hctx
  iintro HO
  iapply (Rounds.wp_signal 𝒱₀ ER (sched m) (c : Thread nD τ) none (dst := (peer c false : Thread nD τ)) (sem := barS) (r := 0) (d := true) (κ := κ (barCell (peer c false)))
      (by rw [duties_bar]; exact Finset.mem_univ _) ((amount_bar m (peer c false) true).trans (by decide)) () (owed c 0) rfl)
    $$ [HO Ht2 Hr2]
  · isplitr; · iapply (ctx_inv m κ c (bar_mem (peer c false))); iexact Hctx
    isplitl [HO]; · iexact HO
    isplitl [Ht2]; · iexact Ht2
    isplitl [Hr2]
    · rw [payload_bar]; iapply (bar_pay m κ c true); isplitr; · iexact Hctx
      iexact Hr2
    iapply (ctx_bar m κ c (peer c false)); iexact Hctx
  iintro HO
  iapply (Rounds.wp_wait_rest_token 𝒱₀ ER (sched m) (c : Thread nD τ) none (κ := κ (barCell c))
      (wpE_semWait_eq 𝒱₀ (c : Thread nD τ) none Set.univ) (Set.mem_univ _) () (O := owed c 0) (W := W) (R := 0) (m := 0) (T := ∅)
      (by rw [expect_bar]; decide)) $$ [Hc HO Hat]
  · isplitr; · iapply (ctx_inv m κ c (bar_mem c)); iexact Hctx
    isplitl [Hc]; · iexact Hc
    isplitl [HO]; · iexact HO
    isplitr
    · iapply (mayWait_owed c (.reg barS) 0 0 (Nat.le_refl _) (by show levK Kind.bar < _; decide))
      iapply (ctx_lev m κ c); iexact Hctx
    iexact Hat
  iintro ⟨HO, Hat, -, Hpay⟩
  ihave Hp := (Entails.of_eq (rest_bar m c)) $$ Hpay
  icases Hp with ⟨Hp1, Hp2⟩
  iapply HK
  isplitl [Hat]; · iexact Hat
  isplitl [Hp1]; · iexact Hp1
  isplitl [Hp2]; · iexact Hp2
  iexists _; iexact HO

/-! ## A hop of one sub-block -/

/-- What a sub-block of a hop needs: its waits, and, unless it is hop 0 whose send is out already, the send before. -/
def Dn (c : Dev nD) (d : Bool) (h : Fin 7) (k : Fin 4) : sProp 𝕄 := iprop(Cl c d h k ∗ sendAny c d h k ∗ recvAny c d h k)

theorem recv_any (d : Bool) (h : Fin 7) (k : Fin 4) (A : FVec F S128x1024 .bf16) : (recvAt c d h k A : sProp 𝕄) ⊢ recvAny c d h k := by
  iintro ⟨%f, -, H⟩; iexists f; iexact H
theorem slot_any (d : Bool) (s : Fin 2) (A : FVec F S512x1024 .f32) : (slotAt c d s A : sProp 𝕄) ⊢ slotAny c d s := by
  iintro ⟨%f, -, H⟩; iexists f; iexact H

/-- Hop `h` of a sub-block: the neighbour's sub-block arrives, the device's rows are added, the sum goes on. -/
theorem hop_step {Ψ : PUnit → sProp 𝕄} (d : Bool) (h h' : Fin 7) (hh : h'.val = h.val + 1) (s : Fin 2) (k : Fin 4) (n : ℕ) (hn : n = code (d, h', k)) :
    iprop(ctx m κ c ∗ (Rx c d h k ∗ Fl c d h k) ∗ (Tx c d h' k ∗ sendAny c d h' k) ∗ slotAt c d s (stgV m d (fin8 h'.val) c) ∗ Ow c n)
      ⊢ iprop((Dn c d h k ∗ Fl c d h' k ∗ slotAt c d s (stgV m d (fin8 h'.val) c) ∗ Ow c (n + 1) -∗ WP c K Ψ) -∗ WP c (hopP d c h h' s k K) Ψ) := by
  unfold hopP Dn
  iintro ⟨#Hctx, ⟨Hrx, Hfl⟩, ⟨Htx, Hs'⟩, Hslot, HO⟩ HK
  iapply (join_step m κ c _ d h k n (by
    rw [hn, code, if_neg (by show ¬ h'.val = 0; omega)]; show _ ≤ 8 * h'.val + _ + _; omega)) $$ [Hrx Hfl HO]
  · isplitr; · iexact Hctx
    isplitl [Hrx]; · iexact Hrx
    isplitl [Hfl]; · iexact Hfl
    iexact HO
  iintro ⟨Hcl, Hs, Hr, HO⟩
  iapply (add_step c _ d h h' s k) $$ [Hr Hslot Hs']
  · isplitl [Hr]; · iexact Hr
    isplitl [Hslot]; · iexact Hslot
    iexact Hs'
  iintro ⟨Hr, Hslot, Hs'⟩
  iapply (send_step m κ c _ d h' k n hn) $$ [Htx Hs' HO]
  · isplitr; · iexact Hctx
    isplitl [Htx]; · iexact Htx
    isplitl [Hs']
    · rw [hh]; iexact Hs'
    iexact HO
  iintro ⟨Hfl, HO⟩
  iapply HK
  isplitl [Hcl Hs Hr]
  · isplitl [Hcl]; · iexact Hcl
    isplitl [Hs]; · iexact Hs
    iapply (recv_any c d h k _); iexact Hr
  isplitl [Hfl]; · iexact Hfl
  isplitl [Hslot]; · iexact Hslot
  iexact HO

/-- The last hop of a sub-block: the sum of the others arrives, the result's sub-block is stored. -/
theorem last_step {Ψ : PUnit → sProp 𝕄} (d : Bool) (k : Fin 4) (fg : Buf (Elt F) (gamM.view.loc (c : Thread nD τ))) (P : Finset (Bool × Fin 4)) (hP : (d, k) ∉ P) :
    iprop(ctx m κ c ∗ (Rx c d 6 k ∗ Fl c d 6 k) ∗ slotAt c d 1 (stgV m d 7 c) ∗ gamAt c fg
        ∗ outAt c P (finV m c ((gamM.access gamR).read (Elt F) fg)) ∗ Ow c 56)
      ⊢ iprop((Dn c d 6 k ∗ slotAt c d 1 (stgV m d 7 c) ∗ gamAt c fg ∗ outAt c (insert (d, k) P) (finV m c ((gamM.access gamR).read (Elt F) fg)) ∗ Ow c 56 -∗ WP c K Ψ)
        -∗ WP c (lastP d k K) Ψ) := by
  unfold lastP Dn
  iintro ⟨#Hctx, ⟨Hrx, Hfl⟩, Hslot, Hg, Ho, HO⟩ HK
  iapply (join_step m κ c _ d 6 k 56 (by decide)) $$ [Hrx Hfl HO]
  · isplitr; · iexact Hctx
    isplitl [Hrx]; · iexact Hrx
    isplitl [Hfl]; · iexact Hfl
    iexact HO
  iintro ⟨Hcl, Hs, Hr, HO⟩
  iapply (norm_step c _ d k fg P (finV m c ((gamM.access gamR).read (Elt F) fg)) (accV m d k 6 (peer c (!d))) (stgV m d 7 c) rfl hP) $$ [Hr Hslot Hg Ho]
  · isplitl [Hr]; · iexact Hr
    isplitl [Hslot]; · iexact Hslot
    isplitl [Hg]; · iexact Hg
    iexact Ho
  iintro ⟨Hr, Hslot, Hg, Ho⟩
  iapply HK
  isplitl [Hcl Hs Hr]
  · isplitl [Hcl]; · iexact Hcl
    isplitl [Hs]; · iexact Hs
    iapply (recv_any c d 6 k _); iexact Hr
  isplitl [Hslot]; · iexact Hslot
  isplitl [Hg]; · iexact Hg
  isplitl [Ho]; · iexact Ho
  iexact HO

end Cert.RingNorm

end
-- ==== Proof.Run.lean ====
/-
The body run: the opening, a round generic in its hop, the end; put together, from what a device holds at its start to
what it holds at its end.
-/
module

public import proofs.«01_k».proof.Proof.Adds

@[expose] public section

noncomputable section

namespace Cert.RingNorm

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families over the rings, the sub-blocks, the hops -/

def Two (Φ : Bool → sProp 𝕄) : sProp 𝕄 := iprop(Φ false ∗ Φ true)
def Four (Φ : Fin 4 → sProp 𝕄) : sProp 𝕄 := iprop(Φ 0 ∗ Φ 1 ∗ Φ 2 ∗ Φ 3)
def Seven (Φ : Fin 7 → sProp 𝕄) : sProp 𝕄 := iprop(Φ 0 ∗ Φ 1 ∗ Φ 2 ∗ Φ 3 ∗ Φ 4 ∗ Φ 5 ∗ Φ 6)

theorem two_eq (Φ : Bool → sProp 𝕄) : bigSep Finset.univ Φ = Two Φ := by
  rw [show (Finset.univ : Finset Bool) = {false, true} by decide, bigSep_insert (by decide), bigSep_singleton]; rfl
theorem four_eq (Φ : Fin 4 → sProp 𝕄) : bigSep Finset.univ Φ = Four Φ := by
  rw [show (Finset.univ : Finset (Fin 4)) = {0, 1, 2, 3} by decide, bigSep_insert (by decide), bigSep_insert (by decide), bigSep_insert (by decide), bigSep_singleton]; rfl
theorem seven_eq (Φ : Fin 7 → sProp 𝕄) : bigSep Finset.univ Φ = Seven Φ := by
  rw [show (Finset.univ : Finset (Fin 7)) = {0, 1, 2, 3, 4, 5, 6} by decide, bigSep_insert (by decide), bigSep_insert (by decide), bigSep_insert (by decide),
    bigSep_insert (by decide), bigSep_insert (by decide), bigSep_insert (by decide), bigSep_singleton]; rfl

/-- One hop's sends: sub-block by sub-block, ring by ring. -/
abbrev Each (Φ : Bool → Fin 4 → sProp 𝕄) : sProp 𝕄 := Four fun k => Two fun d => Φ d k
/-- All the sends, hop by hop. -/
theorem hops_eq (Φ : Bool → Fin 7 → Fin 4 → sProp 𝕄) :
    bigSep Finset.univ (fun p : HK => Φ p.1 p.2.1 p.2.2) = Seven fun h => Each fun d k => Φ d h k := by
  rw [bigSep_univ_equiv (⟨fun q => (q.2.2, q.1, q.2.1), fun p => (p.2.1, p.2.2, p.1), fun _ => rfl, fun _ => rfl⟩ : Fin 7 × Fin 4 × Bool ≃ HK), bigSep_univ_prod, seven_eq]
  refine congrArg Seven (funext fun h => ?_)
  rw [bigSep_univ_prod, four_eq]
  exact congrArg Four (funext fun k => two_eq _)

variable (κ : GSem nD τ sig → ℕ) (c : Dev nD) (K : Pg F)

theorem code_hop (d : Bool) (h : Fin 7) (k : Fin 4) (hh : h.val ≠ 0) : code (d, h, k) = 8 * h.val + 2 * k.val + d.toNat := if_neg hh

/-- Both rings' hop of a sub-block. -/
theorem pair_step {Ψ : PUnit → sProp 𝕄} (h h' : Fin 7) (hh : h'.val = h.val + 1) (s : Fin 2) (k : Fin 4) (n n' : ℕ) (hn : n = 8 * h'.val + 2 * k.val) (hn' : n' = n + 2) :
    iprop(ctx m κ c ∗ Two (fun d => Rx c d h k) ∗ Two (fun d => Fl c d h k) ∗ Two (fun d => iprop(Tx c d h' k ∗ sendAny c d h' k))
        ∗ Two (fun d => slotAt c d s (stgV m d (fin8 h'.val) c)) ∗ Ow c n)
      ⊢ iprop((Two (fun d => Dn c d h k) ∗ Two (fun d => Fl c d h' k) ∗ Two (fun d => slotAt c d s (stgV m d (fin8 h'.val) c)) ∗ Ow c n' -∗ WP c K Ψ)
        -∗ WP c (hopP false c h h' s k (hopP true c h h' s k K)) Ψ) := by
  subst hn'
  simp only [Two]
  iintro ⟨#Hctx, ⟨R1, R2⟩, ⟨F1, F2⟩, ⟨H1', H2'⟩, ⟨Hs1, Hs2⟩, HO⟩ HK
  iapply (hop_step m κ c _ false h h' hh s k n (by rw [code_hop _ _ _ (by omega), hn]; rfl)) $$ [R1 F1 H1' Hs1 HO]
  · isplitr; · iexact Hctx
    isplitl [R1 F1]; · isplitl [R1] <;> iassumption
    isplitl [H1']; · iexact H1'
    isplitl [Hs1]; · iexact Hs1
    iexact HO
  iintro ⟨Hd1, Hf1, Hs1, HO⟩
  iapply (hop_step m κ c _ true h h' hh s k (n + 1) (by rw [code_hop _ _ _ (by omega), hn]; rfl)) $$ [R2 F2 H2' Hs2 HO]
  · isplitr; · iexact Hctx
    isplitl [R2 F2]; · isplitl [R2] <;> iassumption
    isplitl [H2']; · iexact H2'
    isplitl [Hs2]; · iexact Hs2
    iexact HO
  iintro ⟨Hd2, Hf2, Hs2, HO⟩
  iapply HK
  isplitl [Hd1 Hd2]; · isplitl [Hd1] <;> iassumption
  isplitl [Hf1 Hf2]; · isplitl [Hf1] <;> iassumption
  isplitl [Hs1 Hs2]; · isplitl [Hs1] <;> iassumption
  iexact HO

/-- Between hops: hop `h` is out; the fetches for the next sum are on their way to slot `s`, round `r`; slot `s'` is free,
    before its round `r'`. -/
def At (h : ℕ) (s : Fin 2) (r : ℕ) (s' : Fin 2) (r' : ℕ) : sProp 𝕄 :=
  iprop(Two (fun d => Fly m c d s r) ∗ Two (fun d => Rest c d s' r') ∗ Two (fun d => slotAny c d s') ∗ Each (fun d k => Fl c d (Fin.ofNat 7 h) k) ∗ Ow c (8 * (h + 1)))

theorem both_arrive {Ψ : PUnit → sProp 𝕄} (s : Fin 2) (r : ℕ) (hr : r < 4) (n : ℕ) :
    iprop(ctx m κ c ∗ Two (fun d => Fly m c d s r) ∗ Ow c n)
      ⊢ iprop((Two (fun d => Rest c d s (r + 1)) ∗ Two (fun d => slotAt c d s (stgV m d (tOf r s) c)) ∗ Two (fun d => srcAll m c d) ∗ Ow c n -∗ WP c K Ψ)
        -∗ WP c (arriveP false s (arriveP true s K)) Ψ) := by
  simp only [Two]
  iintro ⟨#Hctx, ⟨H1, H2⟩, HO⟩ HK
  iapply (arrive_step m κ c _ false s r hr n) $$ [H1 HO]
  · isplitr; · iexact Hctx
    isplitl [H1]; · iexact H1
    iexact HO
  iintro ⟨Hr1, Hs1, Hx1, HO⟩
  iapply (arrive_step m κ c _ true s r hr n) $$ [H2 HO]
  · isplitr; · iexact Hctx
    isplitl [H2]; · iexact H2
    iexact HO
  iintro ⟨Hr2, Hs2, Hx2, HO⟩
  iapply HK
  isplitl [Hr1 Hr2]; · isplitl [Hr1] <;> iassumption
  isplitl [Hs1 Hs2]; · isplitl [Hs1] <;> iassumption
  isplitl [Hx1 Hx2]; · isplitl [Hx1] <;> iassumption
  iexact HO

theorem both_fetch {Ψ : PUnit → sProp 𝕄} (s : Fin 2) (r : ℕ) (hr : r < 4) (t : Fin 8) (ht : t = tOf r s) :
    iprop(ctx m κ c ∗ Two (fun d => Rest c d s r) ∗ Two (fun d => slotAny c d s) ∗ Two (fun d => srcAll m c d))
      ⊢ iprop((Two (fun d => Fly m c d s r) -∗ WP c K Ψ) -∗ WP c (fetchP false c t s (fetchP true c t s K)) Ψ) := by
  simp only [Two]
  iintro ⟨#Hctx, ⟨Hr1, Hr2⟩, ⟨Hs1, Hs2⟩, ⟨Hx1, Hx2⟩⟩ HK
  iapply (fetch_step m κ c _ false s r hr t ht) $$ [Hr1 Hs1 Hx1]
  · isplitr; · iexact Hctx
    isplitl [Hr1]; · iexact Hr1
    isplitl [Hs1]; · iexact Hs1
    iexact Hx1
  iintro H1
  iapply (fetch_step m κ c _ true s r hr t ht) $$ [Hr2 Hs2 Hx2]
  · isplitr; · iexact Hctx
    isplitl [Hr2]; · iexact Hr2
    isplitl [Hs2]; · iexact Hs2
    iexact Hx2
  iintro H2
  iapply HK
  isplitl [H1] <;> iassumption

/-- A hop but the last. -/
theorem round_step {Ψ : PUnit → sProp 𝕄} (h h' : Fin 7) (hh : h'.val = h.val + 1) (t : Fin 8) (s s' : Fin 2) (r r' : ℕ) (hr : r < 4) (hr' : r' < 4)
    (hs : tOf r s = fin8 h'.val) (ht : t = tOf r' s') (h0 : ℕ) (he : h = Fin.ofNat 7 h0) (he' : h' = Fin.ofNat 7 (h0 + 1)) (hv : h.val = h0) :
    iprop(ctx m κ c ∗ At m c h0 s r s' r' ∗ Each (fun d k => Rx c d h k) ∗ Each (fun d k => iprop(Tx c d h' k ∗ sendAny c d h' k)))
      ⊢ iprop((At m c (h0 + 1) s' r' s (r + 1) ∗ Each (fun d k => Dn c d h k) -∗ WP c K Ψ) -∗ WP c (roundP c h h' t s s' K) Ψ) := by
  unfold At roundP
  rw [← he, ← he', ← hv, ← hh]
  iintro ⟨#Hctx, ⟨Hfly, Hrest, Hslot, Hfl, HO⟩, Hrx, Htx⟩ HK
  iapply (both_arrive m κ c _ s r hr _) $$ [Hfly HO]
  · isplitr; · iexact Hctx
    isplitl [Hfly]; · iexact Hfly
    iexact HO
  iintro ⟨Hrest', Hslot', Hsrc, HO⟩
  iapply (both_fetch m κ c _ s' r' hr' t ht) $$ [Hrest Hslot Hsrc]
  · isplitr; · iexact Hctx
    isplitl [Hrest]; · iexact Hrest
    isplitl [Hslot]; · iexact Hslot
    iexact Hsrc
  iintro Hfly
  rw [hs]
  unfold Each Four
  icases Hfl with ⟨F0, F1, F2, F3⟩
  icases Hrx with ⟨R0, R1, R2, R3⟩
  icases Htx with ⟨T0, T1, T2, T3⟩
  iapply (pair_step m κ c _ h h' hh s 0 (8 * h'.val) (8 * h'.val + 2) rfl rfl) $$ [F0 R0 T0 Hslot' HO]
  · isplitr; · iexact Hctx
    isplitl [R0]; · iexact R0
    isplitl [F0]; · iexact F0
    isplitl [T0]; · iexact T0
    isplitl [Hslot']; · iexact Hslot'
    iexact HO
  iintro ⟨D0, F0, Hslot', HO⟩
  iapply (pair_step m κ c _ h h' hh s 1 (8 * h'.val + 2) (8 * h'.val + 4) rfl rfl) $$ [F1 R1 T1 Hslot' HO]
  · isplitr; · iexact Hctx
    isplitl [R1]; · iexact R1
    isplitl [F1]; · iexact F1
    isplitl [T1]; · iexact T1
    isplitl [Hslot']; · iexact Hslot'
    iexact HO
  iintro ⟨D1, F1, Hslot', HO⟩
  iapply (pair_step m κ c _ h h' hh s 2 (8 * h'.val + 4) (8 * h'.val + 6) rfl rfl) $$ [F2 R2 T2 Hslot' HO]
  · isplitr; · iexact Hctx
    isplitl [R2]; · iexact R2
    isplitl [F2]; · iexact F2
    isplitl [T2]; · iexact T2
    isplitl [Hslot']; · iexact Hslot'
    iexact HO
  iintro ⟨D2, F2, Hslot', HO⟩
  iapply (pair_step m κ c _ h h' hh s 3 (8 * h'.val + 6) (8 * h'.val + 8) rfl rfl) $$ [F3 R3 T3 Hslot' HO]
  · isplitr; · iexact Hctx
    isplitl [R3]; · iexact R3
    isplitl [F3]; · iexact F3
    isplitl [T3]; · iexact T3
    isplitl [Hslot']; · iexact Hslot'
    iexact HO
  iintro ⟨D3, F3, Hslot', HO⟩
  iapply HK
  isplitl [Hfly Hrest' Hslot' F0 F1 F2 F3 HO]
  · isplitl [Hfly]; · iexact Hfly
    isplitl [Hrest']; · iexact Hrest'
    isplitl [Hslot']
    · simp only [Two]; icases Hslot' with ⟨A, B⟩
      isplitl [A]
      · iapply (slot_any c false s _); iexact A
      · iapply (slot_any c true s _); iexact B
    isplitl [F0 F1 F2 F3]
    · isplitl [F0]; · iexact F0
      isplitl [F1]; · iexact F1
      isplitl [F2]; · iexact F2
      iexact F3
    rw [Nat.mul_add 8 h'.val 1]; iexact HO
  · isplitl [D0]; · iexact D0
    isplitl [D1]; · iexact D1
    isplitl [D2]; · iexact D2
    iexact D3

/-! ## The opening -/

/-- The rights to pay for both ends of a send. -/
def TT (c : Dev nD) (d : Bool) (h : Fin 7) (k : Fin 4) : sProp 𝕄 :=
  iprop(dutyTok ER (sCell c d h k) 0 false ∗ dutyTok ER (rCell (peer c d) d h k) 0 false)
/-- What the barrier takes. -/
def BarS (c : Dev nD) : sProp 𝕄 :=
  iprop(cred (tallyAt (barCell c) () 2) ∗ atPos ER (barCell c) 0 ∅ 0 ∗ dutyTok ER (barCell (peer c true)) 0 false ∗ dutyTok ER (barCell (peer c false)) 0 true)

/-- The barrier passed, the neighbours' pieces are in hand. -/
theorem tx_join : iprop(barPay c false ∗ barPay c true ∗ bigSep Finset.univ fun p : HK => TT c p.1 p.2.1 p.2.2)
    ⊢ (Seven fun h => Each fun d k => Tx (F := F) c d h k : sProp 𝕄) := by
  rw [← hops_eq (fun d h k => Tx (F := F) c d h k)]
  have e : (iprop(barPay (F := F) c false ∗ barPay c true) : sProp 𝕄)
      = bigSep Finset.univ fun p : HK => iprop(recvAny (F := F) (peer c p.1) p.1 p.2.1 p.2.2 ∗ reached ER (rCell (peer c p.1) p.1 p.2.1 p.2.2) 0) := by
    rw [bigSep_univ_prod, two_eq]; rfl
  suffices e' : (iprop((barPay (F := F) c false ∗ barPay c true) ∗ bigSep Finset.univ fun p : HK => TT (F := F) c p.1 p.2.1 p.2.2) : sProp 𝕄)
      ⊢ bigSep Finset.univ fun p : HK => Tx c p.1 p.2.1 p.2.2 by
    iintro ⟨H1, H2, HT⟩
    iapply e'
    isplitr [HT]
    · isplitl [H1] <;> iassumption
    iexact HT
  rw [e, ← bigSep_sep']
  refine bigSep_mono fun p _ => ?_
  show (iprop((recvAny (F := F) (peer c p.1) p.1 p.2.1 p.2.2 ∗ reached ER (rCell (peer c p.1) p.1 p.2.1 p.2.2) 0) ∗ TT c p.1 p.2.1 p.2.2) : sProp 𝕄) ⊢ Tx c p.1 p.2.1 p.2.2
  unfold TT Tx
  iintro ⟨⟨Ha, Hr⟩, Hs, Ht⟩
  isplitl [Ha]; · iexact Ha
  isplitl [Hr]; · iexact Hr
  isplitl [Hs] <;> iassumption

/-- The four sends of hop 0. -/
theorem sends_step {Ψ : PUnit → sProp 𝕄} (d : Bool) (n n' : ℕ) (hn : n = 4 * d.toNat) (hn' : n' = n + 4) :
    iprop(ctx m κ c ∗ (Four fun k => Tx c d 0 k) ∗ (Four fun k => sendAt c d 0 k (accV m d k 0 c)) ∗ Ow c n)
      ⊢ iprop(((Four fun k => Fl c d 0 k) ∗ Ow c n' -∗ WP c K Ψ) -∗ WP c (sendsP d c K) Ψ) := by
  subst hn'
  unfold sendsP
  simp only [Four]
  iintro ⟨#Hctx, ⟨T0, T1, T2, T3⟩, ⟨S0, S1, S2, S3⟩, HO⟩ HK
  iapply (send_step m κ c _ d 0 0 n (by rw [hn]; rfl)) $$ [T0 S0 HO]
  · isplitr; · iexact Hctx
    isplitl [T0]; · iexact T0
    isplitl [S0]; · iexact S0
    iexact HO
  iintro ⟨F0, HO⟩
  iapply (send_step m κ c _ d 0 1 (n + 1) (by rw [hn]; rfl)) $$ [T1 S1 HO]
  · isplitr; · iexact Hctx
    isplitl [T1]; · iexact T1
    isplitl [S1]; · iexact S1
    iexact HO
  iintro ⟨F1, HO⟩
  iapply (send_step m κ c _ d 0 2 (n + 2) (by rw [hn]; rfl)) $$ [T2 S2 HO]
  · isplitr; · iexact Hctx
    isplitl [T2]; · iexact T2
    isplitl [S2]; · iexact S2
    iexact HO
  iintro ⟨F2, HO⟩
  iapply (send_step m κ c _ d 0 3 (n + 3) (by rw [hn]; rfl)) $$ [T3 S3 HO]
  · isplitr; · iexact Hctx
    isplitl [T3]; · iexact T3
    isplitl [S3]; · iexact S3
    iexact HO
  iintro ⟨F3, HO⟩
  iapply HK
  isplitr [HO]
  · isplitl [F0]; · iexact F0
    isplitl [F1]; · iexact F1
    isplitl [F2] <;> iassumption
  iexact HO

/-- One ring's start: its first fetch rounded and sent. -/
theorem launch_step {Ψ : PUnit → sProp 𝕄} (d : Bool) (n n' : ℕ) (hn : n = 4 * d.toNat) (hn' : n' = n + 4) :
    iprop(ctx m κ c ∗ Fly m c d 0 0 ∗ (Four fun k => iprop(Tx c d 0 k ∗ sendAny c d 0 k)) ∗ Ow c n)
      ⊢ iprop((Rest c d 0 1 ∗ slotAny c d 0 ∗ srcAll m c d ∗ (Four fun k => Fl c d 0 k) ∗ Ow c n' -∗ WP c K Ψ) -∗ WP c (firstP d c (sendsP d c K)) Ψ) := by
  iintro ⟨#Hctx, Hfly, HT, HO⟩ HK
  ihave HT := (Entails.of_eq (four_eq (fun k => iprop(Tx c d 0 k ∗ sendAny (F := F) c d 0 k))).symm) $$ HT
  ihave HT := (Entails.of_eq (bigSep_sep' Finset.univ (fun k : Fin 4 => Tx c d 0 k) (fun k => sendAny (F := F) c d 0 k))) $$ HT
  icases HT with ⟨HT, HS⟩
  iapply (first_step m κ c _ d n) $$ [Hfly HO HS]
  · isplitr; · iexact Hctx
    isplitl [Hfly]; · iexact Hfly
    isplitl [HO] <;> iassumption
  iintro ⟨Hrest, Hslot, Hsrc, HO, HS⟩
  iapply (sends_step m κ c _ d n n' hn hn') $$ [HT HO HS]
  · isplitr; · iexact Hctx
    isplitl [HT]; · rw [← four_eq]; iexact HT
    isplitl [HS]; · rw [← four_eq]; iexact HS
    iexact HO
  iintro ⟨Hfl, HO⟩
  iapply HK
  isplitl [Hrest]; · iexact Hrest
  isplitl [Hslot]; · iexact Hslot
  isplitl [Hsrc]; · iexact Hsrc
  isplitl [Hfl] <;> iassumption

/-- The body's text up to the first round. -/
def openP (c : Dev nD) (K : Pg F) : Pg F :=
  fetchP false c 0 0 <| fetchP true c 0 0 <| barrierP c <|
  firstP false c <| sendsP false c <| firstP true c <| sendsP true c <|
  fetchP false c 1 1 <| fetchP true c 1 1 K

/-- The sends of the hops from 1 on. -/
abbrev Later (Φ : Bool → Fin 7 → Fin 4 → sProp 𝕄) : sProp 𝕄 :=
  iprop(Each (fun d k => Φ d 1 k) ∗ Each (fun d k => Φ d 2 k) ∗ Each (fun d k => Φ d 3 k) ∗ Each (fun d k => Φ d 4 k) ∗ Each (fun d k => Φ d 5 k) ∗ Each (fun d k => Φ d 6 k))

/-- Hop 0 sorted by ring. -/
theorem by_ring (Φ Φ' : Bool → Fin 4 → sProp 𝕄) :
    iprop(Each Φ ∗ Each Φ') ⊢ Two fun d => Four fun k => iprop(Φ d k ∗ Φ' d k) := by
  unfold Each
  simp only [Two, Four]
  iintro ⟨⟨⟨a0, b0⟩, ⟨a1, b1⟩, ⟨a2, b2⟩, ⟨a3, b3⟩⟩, ⟨⟨c0, d0⟩, ⟨c1, d1⟩, ⟨c2, d2⟩, ⟨c3, d3⟩⟩⟩
  isplitl [a0 a1 a2 a3 c0 c1 c2 c3]
  · isplitl [a0 c0]; · isplitl [a0] <;> iassumption
    isplitl [a1 c1]; · isplitl [a1] <;> iassumption
    isplitl [a2 c2]; · isplitl [a2] <;> iassumption
    isplitl [a3] <;> iassumption
  · isplitl [b0 d0]; · isplitl [b0] <;> iassumption
    isplitl [b1 d1]; · isplitl [b1] <;> iassumption
    isplitl [b2 d2]; · isplitl [b2] <;> iassumption
    isplitl [b3] <;> iassumption
theorem by_block (Φ : Bool → Fin 4 → sProp 𝕄) : iprop((Four fun k => Φ false k) ∗ (Four fun k => Φ true k)) ⊢ Each Φ := by
  unfold Each
  simp only [Two, Four]
  iintro ⟨⟨a0, a1, a2, a3⟩, ⟨b0, b1, b2, b3⟩⟩
  isplitl [a0 b0]; · isplitl [a0] <;> iassumption
  isplitl [a1 b1]; · isplitl [a1] <;> iassumption
  isplitl [a2 b2]; · isplitl [a2] <;> iassumption
  isplitl [a3] <;> iassumption

theorem open_step {Ψ : PUnit → sProp 𝕄} :
    iprop(ctx m κ c ∗ BarS c ∗ Two (fun d => recvs c d) ∗ (∃ W, owes (c : Thread nD τ) (O₀ c) W) ∗ Two (fun d => Rest c d 0 0) ∗ Two (fun d => Rest c d 1 0)
        ∗ Two (fun d => slotAny c d 0) ∗ Two (fun d => slotAny c d 1) ∗ Two (fun d => srcAll m c d) ∗ (bigSep Finset.univ fun p : HK => TT c p.1 p.2.1 p.2.2)
        ∗ Each (fun d k => sendAny c d 0 k))
      ⊢ iprop((At m c 0 1 0 0 1 ∗ atPos ER (barCell c) 1 ∅ 0 ∗ Later (fun d h k => Tx c d h k) -∗ WP c K Ψ) -∗ WP c (openP c K) Ψ) := by
  unfold openP BarS
  iintro ⟨#Hctx, ⟨B1, B2, B3, B4⟩, Hrec, HO, Hr0, Hr1, Hs0, Hs1, Hx, HTT, Hsend⟩ HK
  iapply (both_fetch m κ c _ 0 0 (by decide) 0 rfl) $$ [Hr0 Hs0 Hx]
  · isplitr; · iexact Hctx
    isplitl [Hr0]; · iexact Hr0
    isplitl [Hs0] <;> iassumption
  iintro Hfly
  simp only [Two]
  icases Hrec with ⟨Hrec1, Hrec2⟩
  iapply (barrier_step m κ c _) $$ [B1 B2 B3 B4 Hrec1 Hrec2 HO]
  · isplitr; · iexact Hctx
    isplitl [B1]; · iexact B1
    isplitl [B2]; · iexact B2
    isplitl [B3]; · iexact B3
    isplitl [B4]; · iexact B4
    isplitl [Hrec1]; · iexact Hrec1
    isplitl [Hrec2] <;> iassumption
  iintro ⟨Hat, P1, P2, HO⟩
  ihave HT := (tx_join (F := F) c) $$ [P1 P2 HTT]
  · isplitl [P1]; · iexact P1
    isplitl [P2] <;> iassumption
  unfold Seven
  icases HT with ⟨T0, HT⟩
  ihave H0 := (by_ring (fun d k => Tx (F := F) c d 0 k) (fun d k => sendAny c d 0 k)) $$ [T0 Hsend]
  · isplitl [T0] <;> iassumption
  simp only [Two]
  icases H0 with ⟨H01, H02⟩
  icases Hfly with ⟨Hf1, Hf2⟩
  iapply (launch_step m κ c _ false 0 4 rfl rfl) $$ [Hf1 H01 HO]
  · isplitr; · iexact Hctx
    isplitl [Hf1]; · iexact Hf1
    isplitl [H01] <;> iassumption
  iintro ⟨R1, S1, X1, F1, HO⟩
  iapply (launch_step m κ c _ true 4 8 rfl rfl) $$ [Hf2 H02 HO]
  · isplitr; · iexact Hctx
    isplitl [Hf2]; · iexact Hf2
    isplitl [H02] <;> iassumption
  iintro ⟨R2, S2, X2, F2, HO⟩
  iapply (both_fetch m κ c _ 1 0 (by decide) 1 rfl) $$ [Hr1 Hs1 X1 X2]
  · isplitr; · iexact Hctx
    simp only [Two]
    isplitl [Hr1]; · iexact Hr1
    isplitl [Hs1]; · iexact Hs1
    isplitl [X1] <;> iassumption
  iintro Hfly
  iapply HK
  isplitr [Hat HT]
  · unfold At
    isplitl [Hfly]; · iexact Hfly
    simp only [Two]
    isplitl [R1 R2]; · isplitl [R1] <;> iassumption
    isplitl [S1 S2]; · isplitl [S1] <;> iassumption
    isplitl [F1 F2]
    · iapply (by_block (fun d k => Fl (F := F) c d 0 k)); isplitl [F1] <;> iassumption
    iexact HO
  isplitl [Hat] <;> iassumption

/-! ## The end -/

/-- Both rings' last hop of a sub-block. -/
theorem pair_last {Ψ : PUnit → sProp 𝕄} (k : Fin 4) (fg : Buf (Elt F) (gamM.view.loc (c : Thread nD τ))) (P P' : Finset (Bool × Fin 4))
    (hP : (false, k) ∉ P ∧ (true, k) ∉ P) (hP' : P' = insert (true, k) (insert (false, k) P)) :
    iprop(ctx m κ c ∗ Two (fun d => Rx c d 6 k) ∗ Two (fun d => Fl c d 6 k) ∗ Two (fun d => slotAt c d 1 (stgV m d 7 c)) ∗ gamAt c fg
        ∗ outAt c P (finV m c ((gamM.access gamR).read (Elt F) fg)) ∗ Ow c 56)
      ⊢ iprop((Two (fun d => Dn c d 6 k) ∗ Two (fun d => slotAt c d 1 (stgV m d 7 c)) ∗ gamAt c fg
          ∗ outAt c P' (finV m c ((gamM.access gamR).read (Elt F) fg)) ∗ Ow c 56 -∗ WP c K Ψ) -∗ WP c (lastP false k (lastP true k K)) Ψ) := by
  subst hP'
  simp only [Two]
  iintro ⟨#Hctx, ⟨R1, R2⟩, ⟨F1, F2⟩, ⟨S1, S2⟩, Hg, Ho, HO⟩ HK
  iapply (last_step m κ c _ false k fg P hP.1) $$ [R1 F1 S1 Hg Ho HO]
  · isplitr; · iexact Hctx
    isplitl [R1 F1]; · isplitl [R1] <;> iassumption
    isplitl [S1]; · iexact S1
    isplitl [Hg]; · iexact Hg
    isplitl [Ho] <;> iassumption
  iintro ⟨D1, S1, Hg, Ho, HO⟩
  iapply (last_step m κ c _ true k fg (insert (false, k) P) (by simpa using hP.2)) $$ [R2 F2 S2 Hg Ho HO]
  · isplitr; · iexact Hctx
    isplitl [R2 F2]; · isplitl [R2] <;> iassumption
    isplitl [S2]; · iexact S2
    isplitl [Hg]; · iexact Hg
    isplitl [Ho] <;> iassumption
  iintro ⟨D2, S2, Hg, Ho, HO⟩
  iapply HK
  isplitl [D1 D2]; · isplitl [D1] <;> iassumption
  isplitl [S1 S2]; · isplitl [S1] <;> iassumption
  isplitl [Hg]; · iexact Hg
  isplitl [Ho] <;> iassumption

/-- The sub-blocks stored once those below `n` are. -/
abbrev upTo (n : ℕ) : Finset (Bool × Fin 4) := Finset.univ.filter fun p => p.2.val < n

theorem end_step {Ψ : PUnit → sProp 𝕄} (fg : Buf (Elt F) (gamM.view.loc (c : Thread nD τ))) :
    iprop(ctx m κ c ∗ At m c 6 1 3 0 4 ∗ Each (fun d k => Rx c d 6 k) ∗ gamAt c fg ∗ outAt c ∅ (finV m c ((gamM.access gamR).read (Elt F) fg)))
      ⊢ iprop((Each (fun d k => Dn c d 6 k) ∗ Two (fun d => Rest c d 0 4) ∗ Two (fun d => Rest c d 1 4) ∗ Two (fun d => slotAny c d 0) ∗ Two (fun d => slotAny c d 1)
          ∗ Two (fun d => srcAll m c d) ∗ gamAt c fg ∗ outAt c Finset.univ (finV m c ((gamM.access gamR).read (Elt F) fg)) ∗ Ow c 56 -∗ WP c K Ψ)
        -∗ WP c (endP K) Ψ) := by
  unfold At endP
  iintro ⟨#Hctx, ⟨Hfly, Hr0, Hs0, Hfl, HO⟩, Hrx, Hg, Ho⟩ HK
  iapply (both_arrive m κ c _ 1 3 (by decide) _) $$ [Hfly HO]
  · isplitr; · iexact Hctx
    isplitl [Hfly] <;> iassumption
  iintro ⟨Hr1, Hs1, Hx, HO⟩
  unfold Each Four
  icases Hfl with ⟨F0, F1, F2, F3⟩
  icases Hrx with ⟨R0, R1, R2, R3⟩
  iapply (pair_last m κ c _ 0 fg ∅ (upTo 1) (by decide) (by decide)) $$ [R0 F0 Hs1 Hg Ho HO]
  · isplitr; · iexact Hctx
    isplitl [R0]; · iexact R0
    isplitl [F0]; · iexact F0
    isplitl [Hs1]; · iexact Hs1
    isplitl [Hg]; · iexact Hg
    isplitl [Ho] <;> iassumption
  iintro ⟨D0, Hs1, Hg, Ho, HO⟩
  iapply (pair_last m κ c _ 1 fg (upTo 1) (upTo 2) (by decide) (by decide)) $$ [R1 F1 Hs1 Hg Ho HO]
  · isplitr; · iexact Hctx
    isplitl [R1]; · iexact R1
    isplitl [F1]; · iexact F1
    isplitl [Hs1]; · iexact Hs1
    isplitl [Hg]; · iexact Hg
    isplitl [Ho] <;> iassumption
  iintro ⟨D1, Hs1, Hg, Ho, HO⟩
  iapply (pair_last m κ c _ 2 fg (upTo 2) (upTo 3) (by decide) (by decide)) $$ [R2 F2 Hs1 Hg Ho HO]
  · isplitr; · iexact Hctx
    isplitl [R2]; · iexact R2
    isplitl [F2]; · iexact F2
    isplitl [Hs1]; · iexact Hs1
    isplitl [Hg]; · iexact Hg
    isplitl [Ho] <;> iassumption
  iintro ⟨D2, Hs1, Hg, Ho, HO⟩
  iapply (pair_last m κ c _ 3 fg (upTo 3) Finset.univ (by decide) (by decide)) $$ [R3 F3 Hs1 Hg Ho HO]
  · isplitr; · iexact Hctx
    isplitl [R3]; · iexact R3
    isplitl [F3]; · iexact F3
    isplitl [Hs1]; · iexact Hs1
    isplitl [Hg]; · iexact Hg
    isplitl [Ho] <;> iassumption
  iintro ⟨D3, Hs1, Hg, Ho, HO⟩
  iapply HK
  isplitl [D0 D1 D2 D3]
  · isplitl [D0]; · iexact D0
    isplitl [D1]; · iexact D1
    isplitl [D2] <;> iassumption
  isplitl [Hr0]; · iexact Hr0
  isplitl [Hr1]; · iexact Hr1
  isplitl [Hs0]; · iexact Hs0
  isplitl [Hs1]
  · simp only [Two]; icases Hs1 with ⟨A, B⟩
    isplitl [A]
    · iapply (slot_any c false 1 _); iexact A
    · iapply (slot_any c true 1 _); iexact B
  isplitl [Hx]; · iexact Hx
  isplitl [Hg]; · iexact Hg
  isplitl [Ho] <;> iassumption

/-! ## The body -/

/-- What a device starts the body with, beside the records, the scale and the result's place. -/
def Begin : sProp 𝕄 :=
  iprop(BarS c ∗ Two (fun d => recvs c d) ∗ (∃ W, owes (c : Thread nD τ) (O₀ c) W) ∗ Two (fun d => Rest c d 0 0) ∗ Two (fun d => Rest c d 1 0)
    ∗ Two (fun d => slotAny c d 0) ∗ Two (fun d => slotAny c d 1) ∗ Two (fun d => srcAll m c d)
    ∗ (bigSep Finset.univ fun p : HK => TT c p.1 p.2.1 p.2.2) ∗ (bigSep Finset.univ fun p : HK => sendAny c p.1 p.2.1 p.2.2)
    ∗ bigSep Finset.univ fun p : HK => Rx c p.1 p.2.1 p.2.2)
/-- What it ends it with. -/
def End : sProp 𝕄 :=
  iprop(atPos ER (barCell c) 1 ∅ 0 ∗ (bigSep Finset.univ fun p : HK => Dn c p.1 p.2.1 p.2.2) ∗ Two (fun d => Rest c d 0 4) ∗ Two (fun d => Rest c d 1 4)
    ∗ Two (fun d => slotAny c d 0) ∗ Two (fun d => slotAny c d 1) ∗ Two (fun d => srcAll m c d) ∗ Ow c 56)

theorem each_pair (Φ Φ' : Bool → Fin 4 → sProp 𝕄) : iprop(Each Φ ∗ Each Φ') ⊢ Each fun d k => iprop(Φ d k ∗ Φ' d k) := by
  unfold Each
  simp only [Two, Four]
  iintro ⟨⟨⟨a0, b0⟩, ⟨a1, b1⟩, ⟨a2, b2⟩, ⟨a3, b3⟩⟩, ⟨⟨c0, d0⟩, ⟨c1, d1⟩, ⟨c2, d2⟩, ⟨c3, d3⟩⟩⟩
  isplitl [a0 b0 c0 d0]
  · isplitl [a0 c0]; · isplitl [a0] <;> iassumption
    isplitl [b0] <;> iassumption
  isplitl [a1 b1 c1 d1]
  · isplitl [a1 c1]; · isplitl [a1] <;> iassumption
    isplitl [b1] <;> iassumption
  isplitl [a2 b2 c2 d2]
  · isplitl [a2 c2]; · isplitl [a2] <;> iassumption
    isplitl [b2] <;> iassumption
  isplitl [a3 c3]; · isplitl [a3] <;> iassumption
  isplitl [b3] <;> iassumption

theorem main_run {Ψ : PUnit → sProp 𝕄} (fg : Buf (Elt F) (gamM.view.loc (c : Thread nD τ))) :
    iprop(ctx m κ c ∗ Begin m c ∗ gamAt c fg ∗ outAt c ∅ (finV m c ((gamM.access gamR).read (Elt F) fg)))
      ⊢ iprop((End m c ∗ gamAt c fg ∗ outAt c Finset.univ (finV m c ((gamM.access gamR).read (Elt F) fg)) -∗ Ψ ⟨⟩) -∗ WP c (mainP c) Ψ) := by
  unfold Begin End
  rw [hops_eq (fun d h k => Rx (F := F) c d h k), hops_eq (fun d h k => sendAny (F := F) c d h k), hops_eq (fun d h k => Dn (F := F) c d h k)]
  simp only [Seven]
  iintro ⟨#Hctx, ⟨HB, Hrec, HO, Hr0, Hr1, Hs0, Hs1, Hx, HTT, ⟨A0, A1, A2, A3, A4, A5, A6⟩, ⟨R0, R1, R2, R3, R4, R5, R6⟩⟩, Hg, Ho⟩ HK
  iapply (open_step m κ c (roundP c 0 1 2 1 0 <| roundP c 1 2 3 0 1 <| roundP c 2 3 4 1 0 <| roundP c 3 4 5 0 1 <| roundP c 4 5 6 1 0 <|
    roundP c 5 6 7 0 1 <| endP (.ret ⟨⟩))) $$ [HB Hrec HO Hr0 Hr1 Hs0 Hs1 Hx HTT A0]
  · isplitr; · iexact Hctx
    isplitl [HB]; · iexact HB
    isplitl [Hrec]; · iexact Hrec
    isplitl [HO]; · iexact HO
    isplitl [Hr0]; · iexact Hr0
    isplitl [Hr1]; · iexact Hr1
    isplitl [Hs0]; · iexact Hs0
    isplitl [Hs1]; · iexact Hs1
    isplitl [Hx]; · iexact Hx
    isplitl [HTT] <;> iassumption
  iintro ⟨HA, Hat, T1, T2, T3, T4, T5, T6⟩
  iapply (round_step m κ c _ 0 1 rfl 2 1 0 0 1 (by decide) (by decide) rfl rfl 0 rfl rfl rfl) $$ [HA R0 T1 A1]
  · isplitr; · iexact Hctx
    isplitl [HA]; · iexact HA
    isplitl [R0]; · iexact R0
    iapply (each_pair (fun d k => Tx (F := F) c d 1 k) _); isplitl [T1] <;> iassumption
  iintro ⟨HA, D0⟩
  iapply (round_step m κ c _ 1 2 rfl 3 0 1 1 1 (by decide) (by decide) rfl rfl 1 rfl rfl rfl) $$ [HA R1 T2 A2]
  · isplitr; · iexact Hctx
    isplitl [HA]; · iexact HA
    isplitl [R1]; · iexact R1
    iapply (each_pair (fun d k => Tx (F := F) c d 2 k) _); isplitl [T2] <;> iassumption
  iintro ⟨HA, D1⟩
  iapply (round_step m κ c _ 2 3 rfl 4 1 0 1 2 (by decide) (by decide) rfl rfl 2 rfl rfl rfl) $$ [HA R2 T3 A3]
  · isplitr; · iexact Hctx
    isplitl [HA]; · iexact HA
    isplitl [R2]; · iexact R2
    iapply (each_pair (fun d k => Tx (F := F) c d 3 k) _); isplitl [T3] <;> iassumption
  iintro ⟨HA, D2⟩
  iapply (round_step m κ c _ 3 4 rfl 5 0 1 2 2 (by decide) (by decide) rfl rfl 3 rfl rfl rfl) $$ [HA R3 T4 A4]
  · isplitr; · iexact Hctx
    isplitl [HA]; · iexact HA
    isplitl [R3]; · iexact R3
    iapply (each_pair (fun d k => Tx (F := F) c d 4 k) _); isplitl [T4] <;> iassumption
  iintro ⟨HA, D3⟩
  iapply (round_step m κ c _ 4 5 rfl 6 1 0 2 3 (by decide) (by decide) rfl rfl 4 rfl rfl rfl) $$ [HA R4 T5 A5]
  · isplitr; · iexact Hctx
    isplitl [HA]; · iexact HA
    isplitl [R4]; · iexact R4
    iapply (each_pair (fun d k => Tx (F := F) c d 5 k) _); isplitl [T5] <;> iassumption
  iintro ⟨HA, D4⟩
  iapply (round_step m κ c _ 5 6 rfl 7 0 1 3 3 (by decide) (by decide) rfl rfl 5 rfl rfl rfl) $$ [HA R5 T6 A6]
  · isplitr; · iexact Hctx
    isplitl [HA]; · iexact HA
    isplitl [R5]; · iexact R5
    iapply (each_pair (fun d k => Tx (F := F) c d 6 k) _); isplitl [T6] <;> iassumption
  iintro ⟨HA, D5⟩
  iapply (end_step m κ c _ fg) $$ [HA R6 Hg Ho]
  · isplitr; · iexact Hctx
    isplitl [HA]; · iexact HA
    isplitl [R6]; · iexact R6
    isplitl [Hg] <;> iassumption
  iintro ⟨D6, Hr0, Hr1, Hs0, Hs1, Hx, Hg, Ho, HO⟩
  unfold WP; rw [wp_ret]; imodintro
  iapply HK
  isplitr [Hg Ho]
  · isplitl [Hat]; · iexact Hat
    isplitl [D0 D1 D2 D3 D4 D5 D6]
    · isplitl [D0]; · iexact D0
      isplitl [D1]; · iexact D1
      isplitl [D2]; · iexact D2
      isplitl [D3]; · iexact D3
      isplitl [D4]; · iexact D4
      isplitl [D5] <;> iassumption
    isplitl [Hr0]; · iexact Hr0
    isplitl [Hr1]; · iexact Hr1
    isplitl [Hs0]; · iexact Hs0
    isplitl [Hs1]; · iexact Hs1
    isplitl [Hx] <;> iassumption
  isplitl [Hg] <;> iassumption

end Cert.RingNorm

end
-- ==== Proof.Ends.lean ====
/-
How a device starts and ends the kernel's body: the buffers dealt in pieces and put together again, its cells opened and closed.
-/
module

public import proofs.«01_k».proof.Proof.Run
public import Idealize.ShloMosaic.Lib.Ring
public import Idealize.ShloMosaic.Lib.Pipeline.Launch

@[expose] public section

noncomputable section

namespace Cert.RingNorm

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ) (c : Dev nD)

/-! ## Sums over the cells and the slots -/

/-- Over a device's own cells: the sends, the receives, the staging cells. -/
theorem own_sum (Φ : Own → sProp 𝕄) : bigSep Finset.univ Φ
    = iprop(((bigSep Finset.univ fun p : HK => Φ (.inl (.inl p))) ∗ (bigSep Finset.univ fun p : HK => Φ (.inl (.inr p))))
      ∗ bigSep Finset.univ fun q : Bool × Fin 2 => Φ (.inr q)) := by
  rw [bigSep_univ_sum, bigSep_univ_sum]; rfl

/-- Over the staging slots: slot 0 of both rings, slot 1 of both rings. -/
theorem slots_sum (Φ : Bool → Fin 2 → sProp 𝕄) :
    bigSep Finset.univ (fun q : Bool × Fin 2 => Φ q.1 q.2) = iprop(Two (fun d => Φ d 0) ∗ Two (fun d => Φ d 1)) := by
  rw [bigSep_univ_equiv (Equiv.prodComm (Fin 2) Bool), bigSep_univ_prod, bigSep_fin_two]
  rw [← two_eq, ← two_eq]; rfl

/-- Over the sends: ring by ring. -/
theorem rings_sum (Φ : HK → sProp 𝕄) :
    bigSep Finset.univ Φ = Two fun d => bigSep Finset.univ fun hk : Fin 7 × Fin 4 => Φ (d, hk) := by
  rw [bigSep_univ_prod, two_eq]

theorem two_mono {Φ Ψ : Bool → sProp 𝕄} (h : ∀ d, Φ d ⊢ Ψ d) : Two Φ ⊢ (Two Ψ : sProp 𝕄) := by
  rw [← two_eq, ← two_eq]; exact bigSep_mono fun d _ => h d

/-! ## The buffers in pieces -/

theorem send_cover (d : Bool) : Finset.biUnion (β := (sendM d).view.ty.Idx) Finset.univ (fun p : Fin 7 × Fin 4 => (sendV d p.1 p.2).view.set) = Finset.univ := by
  rw [Finset.biUnion_congr rfl fun p _ => sendV_set d p.1 p.2, union_slice (sendM d).view (fun p : Fin 7 × Fin 4 => hkR p.1 p.2) (Rect.whole _)
    (hk_cover.trans (Rect.set_whole _).symm), View.set_slice, Rect.set_whole]
  cases d <;> exact View.set_whole _
theorem recv_cover (d : Bool) : Finset.biUnion (β := (recvM d).view.ty.Idx) Finset.univ (fun p : Fin 7 × Fin 4 => (recvV d p.1 p.2).view.set) = Finset.univ := by
  rw [Finset.biUnion_congr rfl fun p _ => recvV_set d p.1 p.2, union_slice (recvM d).view (fun p : Fin 7 × Fin 4 => hkR p.1 p.2) (Rect.whole _)
    (hk_cover.trans (Rect.set_whole _).symm), View.set_slice, Rect.set_whole]
  cases d <;> exact View.set_whole _
theorem stage_cover (d : Bool) : Finset.biUnion (β := (stageM d).view.ty.Idx) Finset.univ (fun s : Fin 2 => (slotV d s).view.set) = Finset.univ := by
  rw [Finset.biUnion_congr rfl fun s _ => slotV_set d s, union_slice (stageM d).view slotR (Rect.whole _)
    (slot_cover.trans (Rect.set_whole _).symm), View.set_slice, Rect.set_whole]
  cases d <;> exact View.set_whole _

theorem send_disj (d : Bool) (p q : Fin 7 × Fin 4) (h : p ≠ q) : Disjoint (sendV d p.1 p.2).view.set (sendV d q.1 q.2).view.set := by
  rw [sendV_set, sendV_set, View.set_slice, View.set_slice]; exact (Finset.disjoint_map _).mpr (hk_disj p q h)
theorem recv_disj (d : Bool) (p q : Fin 7 × Fin 4) (h : p ≠ q) : Disjoint (recvV d p.1 p.2).view.set (recvV d q.1 q.2).view.set := by
  rw [recvV_set, recvV_set, View.set_slice, View.set_slice]; exact (Finset.disjoint_map _).mpr (hk_disj p q h)
theorem stage_disj (d : Bool) (s s' : Fin 2) (h : s ≠ s') : Disjoint (slotV d s).view.set (slotV d s').view.set := by
  rw [slotV_set, slotV_set, View.set_slice, View.set_slice]; exact (Finset.disjoint_map _).mpr (slot_disj s s' h)

/-- The send buffer of a ring, whole at some contents; the receive buffer; the staging buffer. -/
abbrev sendB (d : Bool) : sProp 𝕄 := iprop(∃ f : Buf (Elt F) ((sendM d).view.loc (c : Thread nD τ)), ((sendM d).view.loc (c : Thread nD τ) ↦{fullShare} f))
abbrev recvB (d : Bool) : sProp 𝕄 := iprop(∃ f : Buf (Elt F) ((recvM d).view.loc (c : Thread nD τ)), ((recvM d).view.loc (c : Thread nD τ) ↦{fullShare} f))
abbrev stageB (d : Bool) : sProp 𝕄 := iprop(∃ f : Buf (Elt F) ((stageM d).view.loc (c : Thread nD τ)), ((stageM d).view.loc (c : Thread nD τ) ↦{fullShare} f))

theorem send_deal (d : Bool) : (sendB (F := F) c d : sProp 𝕄) ⊢ bigSep Finset.univ fun hk : Fin 7 × Fin 4 => sendAny c d hk.1 hk.2 := by
  have h (f : Buf (Elt F) ((sendM d).view.loc (c : Thread nD τ))) : (iprop((sendM d).view.loc (c : Thread nD τ) ↦{fullShare} f) : sProp 𝕄)
      ⊢ bigSep Finset.univ fun p : Fin 7 × Fin 4 => sendAny c d p.1 p.2 := by
    rw [Ring.pointsTo_blocks (ℓ := (sendM d).view.loc (c : Thread nD τ)) (fun p : Fin 7 × Fin 4 => (sendV d p.1 p.2).view.set) (send_disj d) (send_cover d) (q := fullShare) f]
    refine bigSep_mono fun p _ => ?_
    show (iprop((sendM d).view.loc (c : Thread nD τ) ↦[(sendV d p.1 p.2).view.set]{fullShare} f) : sProp 𝕄) ⊢ sendAny c d p.1 p.2
    iintro H; iexists f; iexact H
  iintro ⟨%f, H⟩
  iapply (h f) $$ H
theorem recv_deal (d : Bool) : (recvB (F := F) c d : sProp 𝕄) ⊢ recvs c d := by
  have h (f : Buf (Elt F) ((recvM d).view.loc (c : Thread nD τ))) : (iprop((recvM d).view.loc (c : Thread nD τ) ↦{fullShare} f) : sProp 𝕄)
      ⊢ bigSep Finset.univ fun p : Fin 7 × Fin 4 => recvAny c d p.1 p.2 := by
    rw [Ring.pointsTo_blocks (ℓ := (recvM d).view.loc (c : Thread nD τ)) (fun p : Fin 7 × Fin 4 => (recvV d p.1 p.2).view.set) (recv_disj d) (recv_cover d) (q := fullShare) f]
    refine bigSep_mono fun p _ => ?_
    show (iprop((recvM d).view.loc (c : Thread nD τ) ↦[(recvV d p.1 p.2).view.set]{fullShare} f) : sProp 𝕄) ⊢ recvAny c d p.1 p.2
    iintro H; iexists f; iexact H
  unfold recvs
  iintro ⟨%f, H⟩
  iapply (h f) $$ H
theorem stage_deal (d : Bool) : (stageB (F := F) c d : sProp 𝕄) ⊢ bigSep Finset.univ fun s : Fin 2 => slotAny c d s := by
  have h (f : Buf (Elt F) ((stageM d).view.loc (c : Thread nD τ))) : (iprop((stageM d).view.loc (c : Thread nD τ) ↦{fullShare} f) : sProp 𝕄)
      ⊢ bigSep Finset.univ fun p : Fin 2 => slotAny c d p := by
    rw [Ring.pointsTo_blocks (ℓ := (stageM d).view.loc (c : Thread nD τ)) (fun p : Fin 2 => (slotV d p).view.set) (stage_disj d) (stage_cover d) (q := fullShare) f]
    refine bigSep_mono fun p _ => ?_
    show (iprop((stageM d).view.loc (c : Thread nD τ) ↦[(slotV d p).view.set]{fullShare} f) : sProp 𝕄) ⊢ slotAny c d p
    iintro H; iexists f; iexact H
  iintro ⟨%f, H⟩
  iapply (h f) $$ H

theorem send_whole (d : Bool) (f₀ : Buf (Elt F) ((sendM d).view.loc (c : Thread nD τ))) :
    (bigSep Finset.univ fun hk : Fin 7 × Fin 4 => sendAny c d hk.1 hk.2) ⊢ (sendB (F := F) c d : sProp 𝕄) :=
  Ring.pointsTo_blocks_join_exists (ℓ := (sendM d).view.loc (c : Thread nD τ)) (fun p : Fin 7 × Fin 4 => (sendV d p.1 p.2).view.set) (send_disj d) (send_cover d) f₀
theorem recv_whole (d : Bool) (f₀ : Buf (Elt F) ((recvM d).view.loc (c : Thread nD τ))) :
    (bigSep Finset.univ fun hk : Fin 7 × Fin 4 => recvAny c d hk.1 hk.2) ⊢ (recvB (F := F) c d : sProp 𝕄) :=
  Ring.pointsTo_blocks_join_exists (ℓ := (recvM d).view.loc (c : Thread nD τ)) (fun p : Fin 7 × Fin 4 => (recvV d p.1 p.2).view.set) (recv_disj d) (recv_cover d) f₀
theorem stage_whole (d : Bool) (f₀ : Buf (Elt F) ((stageM d).view.loc (c : Thread nD τ))) :
    (bigSep Finset.univ fun s : Fin 2 => slotAny c d s) ⊢ (stageB (F := F) c d : sProp 𝕄) :=
  Ring.pointsTo_blocks_join_exists (ℓ := (stageM d).view.loc (c : Thread nD τ)) (fun s : Fin 2 => (slotV d s).view.set) (stage_disj d) (stage_cover d) f₀

/-- The buffers the kernel keeps to itself. -/
def Bufs : sProp 𝕄 := iprop(Two (fun d => sendB c d) ∗ Two (fun d => recvB c d) ∗ Two (fun d => stageB c d))

theorem scoped_eq : (Pipeline.scopedRest (Ix := Unit) (Name := ℕ) (U := UU) (Lvl := ℕ) (Val := Elt F) spec0 c : sProp 𝕄) ⊣⊢ Bufs c := by
  rw [scopedRest0_eq]
  unfold Bufs Two
  constructor
  · iintro ⟨H0, H1, H2, H3, H4, H5⟩
    isplitl [H0 H2]
    · isplitl [H0]; · iexact H0
      iexact H2
    isplitl [H1 H3]
    · isplitl [H1]; · iexact H1
      iexact H3
    isplitl [H4]; · iexact H4
    iexact H5
  · iintro ⟨⟨H0, H2⟩, ⟨H1, H3⟩, ⟨H4, H5⟩⟩
    isplitl [H0]; · iexact H0
    isplitl [H1]; · iexact H1
    isplitl [H2]; · iexact H2
    isplitl [H3]; · iexact H3
    isplitl [H4]; · iexact H4
    iexact H5

/-- The partial sums at the two rings' shares. -/
theorem src_halves : (iprop(srcM.view.loc (c : Thread nD τ) ↦{fullShare} (X m c)) : sProp 𝕄) ⊣⊢ Two fun d => srcAll m c d :=
  pointsTo_share (PosShare.mem_left_op_right fullShare)

/-! ## The cells opened and closed -/

/-- What a device enters the kernel with of the protocol, its own cells still shut. -/
def Tk : sProp 𝕄 :=
  iprop((∃ κ, records m κ) ∗ BarS c ∗ (bigSep Finset.univ fun o : Own => openTok ER (oCell c o)) ∗ (bigSep Finset.univ fun q : Bool × Fin 2 => Toks c q.1 q.2 0)
    ∗ (bigSep Finset.univ fun p : HK => TT c p.1 p.2.1 p.2.2) ∗ bigSep Finset.univ fun p : HK => cred (tallyAt (rCell c p.1 p.2.1 p.2.2) () N))
/-- The same, its own cells open. -/
def Xk : sProp 𝕄 :=
  iprop((∃ κ, ctx m κ c) ∗ BarS c ∗ (bigSep Finset.univ fun o : Own => atPos ER (oCell c o) 0 ∅ 0) ∗ (bigSep Finset.univ fun q : Bool × Fin 2 => Toks c q.1 q.2 0)
    ∗ (bigSep Finset.univ fun p : HK => TT c p.1 p.2.1 p.2.2) ∗ bigSep Finset.univ fun p : HK => cred (tallyAt (rCell c p.1 p.2.1 p.2.2) () N))

theorem cells_open : iprop(Tk m c ∗ Pipeline.ownSems0 osem c ∗ levAts L lv) ⊢ (|={Set.univ}=> Xk m c : sProp 𝕄) := by
  unfold Tk Xk
  iintro ⟨⟨⟨%κ, #HR⟩, HB, Ho, HT, HTT, Hc⟩, Hs, #Hl⟩
  ihave Hs := (show (Pipeline.ownSems0 osem c : sProp 𝕄) ⊢ bigSep Finset.univ fun o : Own => semVal (oCell c o) 0 from .rfl) $$ Hs
  ihave H := (Entails.of_eq (bigSep_sep' Finset.univ (fun o : Own => openTok ER (oCell c o)) (fun o : Own => semVal (oCell c o) 0)).symm) $$ [Ho Hs]
  · isplitl [Ho]; · iexact Ho
    iexact Hs
  ihave H := (bigSep_with_persistent (R := records m κ) (S := Finset.univ) (Φ := fun o : Own => iprop(openTok ER (oCell c o) ∗ semVal (oCell c o) 0))
    (Ψ := fun o : Own => iprop(|={Set.univ}=> (atPos ER (oCell c o) 0 ∅ 0 ∗ reached ER (oCell c o) 0))) fun o _ => by
      iintro ⟨#HR, Ho, Hs⟩
      iapply (Rounds.cell_open ER (sched m) (g := oCell c o) (Set.mem_univ (κ (oCell c o))))
      isplitr; · iapply (inv_at m κ (own_mem c o)); iexact HR
      isplitl [Ho] <;> iassumption) $$ [H]
  · isplitr; · iexact HR
    iexact H
  ihave H := (bigSep_fupd Finset.univ _) $$ H
  imod H with H
  ihave H := (Entails.of_eq (bigSep_sep' Finset.univ (fun o : Own => atPos ER (oCell c o) 0 ∅ 0) (fun o : Own => reached ER (oCell c o) 0))) $$ H
  icases H with ⟨Hat, #Hre⟩
  imodintro
  isplitr
  · iexists κ; unfold ctx
    isplitr; · iexact HR
    isplitr; · iexact Hl
    iexact Hre
  isplitl [HB]; · iexact HB
  isplitl [Hat]; · iexact Hat
  isplitl [HT]; · iexact HT
  isplitl [HTT] <;> iassumption

/-- One of its cells closed: the counter back at zero. -/
theorem shut {g : GSem nD τ sig} (hg : g ∈ barCells ∪ ownCells) (R : ℕ) (hR : dutiesOf R (kind g.2) = ∅) (hR0 : 0 < R) :
    iprop(ctx m κ c ∗ atPos ER g R ∅ 0) ⊢ (|={Set.univ}=> semVal g 0 : sProp 𝕄) := by
  iintro ⟨#Hctx, H⟩
  iapply (Rounds.cell_close ER (sched m) (Set.mem_univ (κ g)) (fun h => h) (duties_later m g R hR hR0))
  isplitr; · iapply (ctx_inv m κ c hg); iexact Hctx
  iexact H

/-- All of a kind of its own cells closed. -/
theorem shut_all {I : Type} [Fintype I] [DecidableEq I] (o : I → Own) (R : ℕ) (hR : ∀ i, dutiesOf R (kind (osem (o i))) = ∅) (hR0 : 0 < R) :
    iprop(ctx m κ c ∗ bigSep Finset.univ fun i => atPos ER (oCell c (o i)) R ∅ 0) ⊢ (|={Set.univ}=> bigSep Finset.univ fun i => semVal (oCell c (o i)) 0 : sProp 𝕄) :=
  (bigSep_with_persistent (R := ctx m κ c) (S := Finset.univ) fun i _ => shut m κ c (own_mem c (o i)) R (hR i) hR0).trans (bigSep_fupd _ _)

/-! ## The start -/

theorem rest_deal : iprop(ctx m κ c ∗ (bigSep Finset.univ fun q : Bool × Fin 2 => iprop(atPos ER (cCell c q.1 q.2) 0 ∅ 0 ∗ Toks c q.1 q.2 0)))
    ⊢ (bigSep Finset.univ fun q : Bool × Fin 2 => Rest c q.1 q.2 0 : sProp 𝕄) := by
  refine bigSep_with_persistent fun q _ => ?_
  show (iprop(ctx m κ c ∗ (atPos ER (cCell c q.1 q.2) 0 ∅ 0 ∗ Toks c q.1 q.2 0)) : sProp 𝕄) ⊢ Rest c q.1 q.2 0
  unfold Rest
  iintro ⟨#Hctx, Ha, Ht⟩
  isplitl [Ha]; · iexact Ha
  isplitr; · iapply (ctx_open m κ c (.inr q)); iexact Hctx
  iexact Ht

/-- What a device enters with is what `main_run` starts from. -/
theorem begin_intro : iprop(Xk m c ∗ Bufs c ∗ (srcM.view.loc (c : Thread nD τ) ↦{fullShare} (X m c)) ∗ ∃ W, owes (c : Thread nD τ) (O₀ c) W)
    ⊢ (iprop(∃ κ, ctx m κ c ∗ Begin m c) : sProp 𝕄) := by
  unfold Xk Bufs Begin
  iintro ⟨⟨⟨%κ, #Hctx⟩, HB, Hat, HT, HTT, Hcr⟩, ⟨Hs, Hr, Hst⟩, Hsrc, HO⟩
  iexists κ
  isplitr; · iexact Hctx
  ihave Hat := (Entails.of_eq (own_sum (fun o : Own => atPos ER (oCell c o) 0 ∅ 0))) $$ Hat
  icases Hat with ⟨⟨Has, Har⟩, Hac⟩
  isplitl [HB]; · iexact HB
  isplitl [Hr]; · iapply (two_mono (recv_deal c)) $$ Hr
  isplitl [HO]; · iexact HO
  ihave HR := (Entails.of_eq (bigSep_sep' Finset.univ (fun q : Bool × Fin 2 => atPos ER (cCell c q.1 q.2) 0 ∅ 0) (fun q : Bool × Fin 2 => Toks c q.1 q.2 0)).symm) $$ [Hac HT]
  · isplitl [Hac]; · iexact Hac
    iexact HT
  ihave HR := (rest_deal m κ c) $$ [HR]
  · isplitr; · iexact Hctx
    iexact HR
  ihave HR := (Entails.of_eq (slots_sum (fun d s => Rest c d s 0))) $$ HR
  icases HR with ⟨HR0, HR1⟩
  isplitl [HR0]; · iexact HR0
  isplitl [HR1]; · iexact HR1
  ihave Hst := (two_mono (stage_deal c)) $$ Hst
  ihave Hst := (Entails.of_eq (by rw [← two_eq, ← slots_sum, bigSep_univ_prod] : (Two fun d => bigSep Finset.univ fun s : Fin 2 => slotAny c d s : sProp 𝕄)
    = iprop(Two (fun d => slotAny c d 0) ∗ Two (fun d => slotAny c d 1)))) $$ Hst
  icases Hst with ⟨Hst0, Hst1⟩
  isplitl [Hst0]; · iexact Hst0
  isplitl [Hst1]; · iexact Hst1
  isplitl [Hsrc]; · iapply (src_halves m c).1 $$ Hsrc
  isplitl [HTT]; · iexact HTT
  isplitl [Hs]
  · ihave Hs := (two_mono (send_deal c)) $$ Hs
    iapply (Entails.of_eq (rings_sum (fun p : HK => sendAny c p.1 p.2.1 p.2.2)).symm) $$ Hs
  unfold Rx
  iapply (Entails.of_eq (bigSep_sep' Finset.univ (fun p : HK => atPos ER (sCell c p.1 p.2.1 p.2.2) 0 ∅ 0)
    (fun p : HK => iprop(atPos ER (rCell c p.1 p.2.1 p.2.2) 0 ∅ 0 ∗ cred (tallyAt (rCell c p.1 p.2.1 p.2.2) () N)))).symm)
  isplitl [Has]; · iexact Has
  iapply (Entails.of_eq (bigSep_sep' Finset.univ (fun p : HK => atPos ER (rCell c p.1 p.2.1 p.2.2) 0 ∅ 0)
    (fun p : HK => cred (tallyAt (rCell c p.1 p.2.1 p.2.2) () N))).symm)
  isplitl [Har]; · iexact Har
  iexact Hcr

/-! ## The end -/

/-- What a device leaves the kernel with. -/
def Left : sProp 𝕄 :=
  iprop(Bufs c ∗ (srcM.view.loc (c : Thread nD τ) ↦{fullShare} (X m c)) ∗ Pipeline.ownSems0 osem c ∗ semVal (barCell c) 0 ∗ ∃ W, owes (c : Thread nD τ) 0 W)

theorem hops_split : (bigSep Finset.univ fun p : HK => Dn (F := F) c p.1 p.2.1 p.2.2 : sProp 𝕄)
    ⊢ iprop((bigSep Finset.univ fun p : HK => atPos ER (sCell c p.1 p.2.1 p.2.2) 1 ∅ 0) ∗ (bigSep Finset.univ fun p : HK => atPos ER (rCell c p.1 p.2.1 p.2.2) 1 ∅ 0)
      ∗ (bigSep Finset.univ fun p : HK => sendAny c p.1 p.2.1 p.2.2) ∗ bigSep Finset.univ fun p : HK => recvAny c p.1 p.2.1 p.2.2) := by
  unfold Dn Cl
  rw [← bigSep_sep', ← bigSep_sep', ← bigSep_sep']
  refine bigSep_mono fun p _ => ?_
  show (iprop((atPos ER (sCell c p.1 p.2.1 p.2.2) 1 ∅ 0 ∗ atPos ER (rCell c p.1 p.2.1 p.2.2) 1 ∅ 0) ∗ sendAny c p.1 p.2.1 p.2.2 ∗ recvAny c p.1 p.2.1 p.2.2) : sProp 𝕄)
    ⊢ iprop(atPos ER (sCell c p.1 p.2.1 p.2.2) 1 ∅ 0 ∗ atPos ER (rCell c p.1 p.2.1 p.2.2) 1 ∅ 0 ∗ sendAny c p.1 p.2.1 p.2.2 ∗ recvAny c p.1 p.2.1 p.2.2)
  iintro ⟨⟨Ha, Hb⟩, Hc, Hd⟩
  isplitl [Ha]; · iexact Ha
  isplitl [Hb]; · iexact Hb
  isplitl [Hc] <;> iassumption

/-- The cells of a device all closed. -/
theorem sems_shut : iprop(ctx m κ c ∗ (bigSep Finset.univ fun p : HK => atPos ER (sCell c p.1 p.2.1 p.2.2) 1 ∅ 0)
      ∗ (bigSep Finset.univ fun p : HK => atPos ER (rCell c p.1 p.2.1 p.2.2) 1 ∅ 0) ∗ bigSep Finset.univ fun q : Bool × Fin 2 => Rest c q.1 q.2 4)
    ⊢ (|={Set.univ}=> Pipeline.ownSems0 osem c : sProp 𝕄) := by
  have hrest : (bigSep Finset.univ fun q : Bool × Fin 2 => Rest c q.1 q.2 4 : sProp 𝕄) ⊢ bigSep Finset.univ fun q : Bool × Fin 2 => atPos ER (oCell c (.inr q)) 4 ∅ 0 := by
    refine bigSep_mono fun q _ => ?_
    show (Rest c q.1 q.2 4 : sProp 𝕄) ⊢ atPos ER (cCell c q.1 q.2) 4 ∅ 0
    unfold Rest
    iintro ⟨H, -, -⟩; iexact H
  iintro ⟨#Hctx, Hs, Hr, Hc⟩
  ihave Hc := hrest $$ Hc
  imod (shut_all m κ c (fun p : HK => .inl (.inl p)) 1 (fun p => by rw [kind_osem]; rfl) (by decide)) $$ [Hs] with Hs
  · isplitr; · iexact Hctx
    iexact Hs
  imod (shut_all m κ c (fun p : HK => .inl (.inr p)) 1 (fun p => by rw [kind_osem]; rfl) (by decide)) $$ [Hr] with Hr
  · isplitr; · iexact Hctx
    iexact Hr
  imod (shut_all m κ c (fun q : Bool × Fin 2 => .inr q) 4 (fun p => by rw [kind_osem]; rfl) (by decide)) $$ [Hc] with Hc
  · isplitr; · iexact Hctx
    iexact Hc
  imodintro
  iapply (show (bigSep Finset.univ fun o : Own => semVal (oCell c o) 0 : sProp 𝕄) ⊢ Pipeline.ownSems0 osem c from .rfl)
  iapply (Entails.of_eq (own_sum (fun o : Own => semVal (oCell c o) 0)).symm)
  isplitl [Hs Hr]
  · isplitl [Hs] <;> iassumption
  iexact Hc

theorem end_elim (f₀ : (d : Bool) → Buf (Elt F) ((sendM d).view.loc (c : Thread nD τ))) (f₁ : (d : Bool) → Buf (Elt F) ((recvM d).view.loc (c : Thread nD τ)))
    (f₂ : (d : Bool) → Buf (Elt F) ((stageM d).view.loc (c : Thread nD τ))) :
    iprop(ctx m κ c ∗ End m c) ⊢ (|={Set.univ}=> Left m c : sProp 𝕄) := by
  unfold End Left Bufs Ow
  iintro ⟨#Hctx, HB, HD, HR0, HR1, Hst0, Hst1, Hsrc, ⟨%W, HO⟩⟩
  ihave HD := (hops_split c) $$ HD
  icases HD with ⟨Has, Har, Hs, Hr⟩
  ihave HR := (Entails.of_eq (slots_sum (fun d s => Rest c d s 4)).symm) $$ [HR0 HR1]
  · isplitl [HR0] <;> iassumption
  imod (sems_shut m κ c) $$ [Has Har HR] with Hsem
  · isplitr; · iexact Hctx
    isplitl [Has]; · iexact Has
    isplitl [Har] <;> iassumption
  imod (shut m κ c (g := barCell c) (bar_mem c) 1 rfl (by decide)) $$ [HB] with HB
  · isplitr; · iexact Hctx
    iexact HB
  imodintro
  isplitl [Hs Hr Hst0 Hst1]
  · isplitl [Hs]
    · ihave Hs := (Entails.of_eq (rings_sum (fun p : HK => sendAny c p.1 p.2.1 p.2.2))) $$ Hs
      iapply (two_mono (fun d => send_whole c d (f₀ d))) $$ Hs
    isplitl [Hr]
    · ihave Hr := (Entails.of_eq (rings_sum (fun p : HK => recvAny c p.1 p.2.1 p.2.2))) $$ Hr
      iapply (two_mono (fun d => recv_whole c d (f₁ d))) $$ Hr
    ihave Hst := (Entails.of_eq (by rw [← two_eq, ← slots_sum, bigSep_univ_prod] : (Two fun d => bigSep Finset.univ fun s : Fin 2 => slotAny c d s : sProp 𝕄)
      = iprop(Two (fun d => slotAny c d 0) ∗ Two (fun d => slotAny c d 1))).symm) $$ [Hst0 Hst1]
    · isplitl [Hst0] <;> iassumption
    iapply (two_mono (fun d => stage_whole c d (f₂ d))) $$ Hst
  isplitl [Hsrc]; · iapply (src_halves m c).2 $$ Hsrc
  isplitl [Hsem]; · iexact Hsem
  isplitl [HB]; · iexact HB
  iexists W
  rw [owed_last]
  iexact HO

end Cert.RingNorm

end
-- ==== Proof.Body.lean ====
/-
The kernel at its one grid point: what the pipeline hands it, what it leaves in the result block.
-/
module

public import proofs.«01_k».proof.Proof.Ends
public import proofs.«01_k».proof.Proof.Gen.KernelIdeal.Frame

@[expose] public section

noncomputable section

namespace Cert.RingNorm

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (κ : GSem nD τ sig → ℕ) (c : Dev nD)

/-! ## The result block -/

/-- Gamma as a device's body reads it. -/
def gamV : FVec F S1x1024 .f32 := (gamM.access gamR).read (Elt F) (iblk m c 0 t0_0)

/-- The ring and the sub-block a row of the result block belongs to. -/
def partOf (i : S1024x1024.Idx) : Bool × Fin 4 := (decide (512 ≤ (i 0).val), ⟨(i 0).val % 512 / 128, by omega⟩)
/-- The place within that sub-block. -/
def lowIx (i : S1024x1024.Idx) : S128x1024.Idx := ix2 ⟨(i 0).val % 128, by omega⟩ (i 1)

/-- The result block of a device, every sub-block from its ring. -/
def resV : S1024x1024.Idx → F .f32 := fun i => finV m c (gamV m c) (partOf i) (lowIx i)

theorem outR_emb (i : S1024x1024.Idx) : (outR (partOf i).1 (partOf i).2).emb (lowIx i) = i := by
  have h0 : (i 0).val < 1024 := (i 0).isLt
  refine funext fun a => Fin.ext ?_
  obtain ⟨a, ha⟩ := a
  obtain rfl | rfl : a = 0 ∨ a = 1 := by have : a < 2 := ha; omega
  · show 512 * (partOf i).1.toNat + 128 * (partOf i).2.val + 1 * ((i 0).val % 128) = (i 0).val
    have hp : (partOf i).1.toNat = (i 0).val / 512 := by
      unfold partOf
      by_cases h : 512 ≤ (i 0).val
      · simp only [h, decide_true, Bool.toNat_true]; omega
      · simp only [h, decide_false, Bool.toNat_false]; omega
    rw [hp, show (partOf i).2.val = (i 0).val % 512 / 128 from rfl]
    omega
  · show 0 + 1 * (i 1).val = (i 1).val
    omega

/-- Every part of the result block known, the block is. -/
theorem out_eq (f : Buf (Elt F) (outM.view.loc (c : Thread nD τ)))
    (h : ∀ p ∈ (Finset.univ : Finset (Bool × Fin 4)), (outM.access (outR p.1 p.2)).read (Elt F) f = finV m c (gamV m c) p) :
    f = resV m c := by
  funext i
  have hi := congrFun (h (partOf i) (Finset.mem_univ _)) (lowIx i)
  rw [show resV m c i = finV m c (gamV m c) (partOf i) (lowIx i) from rfl, ← hi]
  exact congrArg f (outR_emb i).symm

/-! ## The pipeline's proof data -/

/-- The body's own resources before its point, and after. -/
def Phi₀ : sProp 𝕄 := iprop(Bufs c ∗ (∃ r, prngReg c r) ∗ (srcM.view.loc (c : Thread nD τ) ↦{fullShare} (X m c)) ∗ Xk m c)
def Phi₁ : sProp 𝕄 := iprop(Bufs c ∗ (∃ r, prngReg c r) ∗ (srcM.view.loc (c : Thread nD τ) ↦{fullShare} (X m c)) ∗ Pipeline.ownSems0 osem c ∗ semVal (barCell c) 0)

def dat0 (c : Dev nD) : Dat τ (Elt F) Unit ℕ UU ℕ cfg0 c where
  A w := V m c (Pipeline.arrRef spec0 w)
  after w t := match w with
    | ⟨0, _⟩ => iblk m c 0 t
    | ⟨1, _⟩ => resV m c
  Φ t := if t.val = 0 then Phi₀ m c else Phi₁ m c
  q _ := fullShare
  owed t := if t.val = 0 then O₀ c else 0

theorem before_gam (t : Fin cfg0.N) (d) : (dat0 m c).before 0 t d = iblk m c 0 t :=
  ((dat0 m c).before_in_eq_fetched 0 rfl (fun _ => rfl) (fun _ _ _ => rfl) (fun t => rfl) t d).trans rfl

theorem owed_first : (dat0 m c).owed t0_0.castSucc = O₀ c := by
  show (if (t0_0.castSucc : Fin (cfg0.N + 1)).val = 0 then O₀ c else 0) = O₀ c
  exact if_pos rfl
theorem owed_end : (dat0 m c).owed t0_0.succ = 0 := by
  show (if (t0_0.succ : Fin (cfg0.N + 1)).val = 0 then O₀ c else 0) = 0
  exact if_neg (Nat.succ_ne_zero _)
theorem phi_first : (dat0 m c).Φ t0_0.castSucc = Phi₀ m c := by
  show (if (t0_0.castSucc : Fin (cfg0.N + 1)).val = 0 then Phi₀ m c else Phi₁ m c) = Phi₀ m c
  exact if_pos rfl
theorem phi_end : (dat0 m c).Φ t0_0.succ = Phi₁ m c := by
  show (if (t0_0.succ : Fin (cfg0.N + 1)).val = 0 then Phi₀ m c else Phi₁ m c) = Phi₁ m c
  exact if_neg (Nat.succ_ne_zero _)

/-- What a device owes at a place of the pipeline is some `owes` of that amount, and the other way round. -/
theorem owesAt_iff (t : Fin (cfg0.N + 1)) (O : CellTallies nD τ sig Unit) (h : (dat0 m c).owed t = O) :
    ((dat0 m c).owesAt () t : sProp 𝕄) ⊣⊢ iprop(∃ W, owes (c : Thread nD τ) O W) := by
  unfold Dat.owesAt Pipeline.owesWithin Dat.bound
  rw [h, show (dat0 m c).recorded t = Set.univ from rfl]
  constructor
  · iintro ⟨%W, -, H⟩; iexists W; iexact H
  · iintro ⟨%W, H⟩; iexists W
    isplitr; · ipureintro; exact fun _ _ => .inl trivial
    iexact H

/-- What the pipeline hands the body, and takes back. -/
def Pre : sProp 𝕄 := iprop(Phi₀ m c ∗ (∃ W, owes (c : Thread nD τ) (O₀ c) W) ∗ gamAt c (iblk m c 0 t0_0) ∗ ∃ f, (outM.view.loc (c : Thread nD τ) ↦{fullShare} f))
def Post : sProp 𝕄 := iprop(Phi₁ m c ∗ (∃ W, owes (c : Thread nD τ) 0 W) ∗ gamAt c (iblk m c 0 t0_0) ∗ (outM.view.loc (c : Thread nD τ) ↦{fullShare} (resV m c)))

theorem kernel_run : (Pre m c : sProp 𝕄) ⊢ WP c (mainP c) fun _ => Post m c := by
  unfold Pre Phi₀ Bufs Two
  iintro ⟨⟨⟨⟨⟨%a0, Ha0⟩, ⟨%a1, Ha1⟩⟩, ⟨⟨%b0, Hb0⟩, ⟨%b1, Hb1⟩⟩, ⟨⟨%s0, Hs0⟩, ⟨%s1, Hs1⟩⟩⟩, Hp, Hsrc, HX⟩, HO, Hg, ⟨%fo, Hout⟩⟩
  ihave HB := (begin_intro m c) $$ [Ha0 Ha1 Hb0 Hb1 Hs0 Hs1 Hsrc HX HO]
  · unfold Bufs Two
    isplitl [HX]; · iexact HX
    isplitl [Ha0 Ha1 Hb0 Hb1 Hs0 Hs1]
    · isplitl [Ha0 Ha1]
      · isplitl [Ha0]; · iexists a0; iexact Ha0
        iexists a1; iexact Ha1
      isplitl [Hb0 Hb1]
      · isplitl [Hb0]; · iexists b0; iexact Hb0
        iexists b1; iexact Hb1
      isplitl [Hs0]; · iexists s0; iexact Hs0
      iexists s1; iexact Hs1
    isplitl [Hsrc]; · iexact Hsrc
    iexact HO
  icases HB with ⟨%κ, #Hctx, HB⟩
  iapply (wp_fupd frame (wpE (defs₀ (F := F)) 𝒱₀ (c : Thread nD τ) none) Set.univ (mainP c) (fun _ => Post m c))
  iapply (main_run m κ c (Ψ := fun _ => iprop(|={Set.univ}=> Post m c)) (iblk m c 0 t0_0)) $$ [HB Hg Hout]
  · isplitr; · iexact Hctx
    isplitl [HB]; · iexact HB
    isplitl [Hg]; · iexact Hg
    unfold outAt
    iexists fo
    isplitr; · ipureintro; intro p hp; exact absurd hp (Finset.notMem_empty p)
    iexact Hout
  iintro ⟨HE, Hg, Hout⟩
  imod (end_elim m κ c (fun d => match d with | false => a0 | true => a1) (fun d => match d with | false => b0 | true => b1)
    (fun d => match d with | false => s0 | true => s1)) $$ [HE] with HE
  · isplitr; · iexact Hctx
    iexact HE
  imodintro
  unfold Left Post Phi₁ outAt
  icases HE with ⟨HB, Hsrc, Hsem, Hbar, HO⟩
  icases Hout with ⟨%f, %hf, Hout⟩
  isplitl [HB Hp Hsrc Hsem Hbar]
  · isplitl [HB]; · iexact HB
    isplitl [Hp]; · iexact Hp
    isplitl [Hsrc]; · iexact Hsrc
    isplitl [Hsem] <;> iassumption
  isplitl [HO]; · iexact HO
  isplitl [Hg]; · iexact Hg
  rw [← out_eq m c f hf]
  iexact Hout

theorem body_prog : defs₀ (F := F) .tc cfg0.body (cfg0.bodyArgs t0_0 (cfg0.slots t0_0)) = .op .deviceId fun c => mainP c :=
  (show defs₀ (F := F) .tc cfg0.body (cfg0.bodyArgs t0_0 (cfg0.slots t0_0)) = bodyAt0 t0_0 from rfl).trans body_eq

theorem idle0 : cfg0.idle 0 (cfg0.grid.coords t0_0) = false := rfl
theorem idle1 : cfg0.idle 1 (cfg0.grid.coords t0_0) = false := rfl
theorem owns_gam (f) : (owns (c : Thread nD τ) ((cfg0.win 0).stage (cfg0.slots t0_0 0)) fullShare f : sProp 𝕄) = gamAt c f := owns_whole _ _ _ _
theorem owns_out (f) : (owns (c : Thread nD τ) ((cfg0.win 1).stage (cfg0.slots t0_0 1)) fullShare f : sProp 𝕄) = iprop(outM.view.loc (c : Thread nD τ) ↦{fullShare} f) := owns_whole _ _ _ _

/-- The body at the grid's one point: the result block holds every sub-block of `resV`. -/
theorem body_obligation : BodyObligation (dat0 (F := F) m c) defs₀ 𝒱₀ () Set.univ := fun t => by
  obtain rfl : t = t0_0 := fin_N0 t
  rw [bigSep_W0, bigSep_W0, phi_first, phi_end]
  simp only [idle0, idle1, before_gam]
  rw [body_prog, wp_deviceId]
  iintro ⟨HP, HO, ⟨%d0, Hg⟩, ⟨%d1, Ho⟩⟩
  ihave HO := (owesAt_iff m c t0_0.castSucc _ (owed_first m c)).1 $$ HO
  iapply (wp_mono (Fr := frame) (wpE := wpE (defs₀ (F := F)) 𝒱₀ (c : Thread nD τ) none) (E := Set.univ) (p := mainP c) (Q := fun _ => Post m c) fun _ => by
    unfold Post
    iintro ⟨HP, HO, Hg, Ho⟩
    isplitl [HP]; · iexact HP
    isplitl [HO]; · iapply (owesAt_iff m c t0_0.succ _ (owed_end m c)).2 $$ HO
    isplitl [Hg]; · iapply (Entails.of_eq (owns_gam c (iblk m c 0 t0_0)).symm) $$ Hg
    iapply (Entails.of_eq (owns_out c (resV m c)).symm) $$ Ho)
  iapply (kernel_run m c)
  unfold Pre
  isplitl [HP]; · iexact HP
  isplitl [HO]; · iexact HO
  isplitl [Hg]; · iapply (Entails.of_eq (owns_gam c (iblk m c 0 t0_0))) $$ Hg
  iexists ((dat0 m c).before 1 t0_0 d1)
  iapply (Entails.of_eq (owns_out c ((dat0 m c).before 1 t0_0 d1))) $$ Ho

end Cert.RingNorm

end
-- ==== Proof.Region.lean ====
/-
@main on a device: the reshape of gamma on the host, then the kernel.
-/
module

public import proofs.«01_k».proof.Proof.Body
public import Idealize.ShloMosaic.Lib.Pipeline.RegionTalk
public import Idealize.ShloMosaic.Lib.Pipeline.Frame
public import Idealize.ShloMosaic.Lib.Pipeline.ValueKit.Geometry

@[expose] public section

noncomputable section

namespace Cert.RingNorm

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (c : Dev nD)

/-! ## The buffers of @main -/

/-- A device's buffers as launched, after the host's reshape, after the kernel. -/
def Va : Valuation τ sig (Elt F) := fun b => m (c, b)
def Vb : Valuation τ sig (Elt F) := StableHlo.after hostOps0 (Va m c)
def Vc : Valuation τ sig (Elt F) := Function.update (Vb m c) (Proc.devRef .tc main_v2) (resV m c)

theorem Vb_arg0 : Vb m c (Proc.devRef .tc main_arg0) = X m c := V_main_arg0 m c
theorem Vb_arg1 : Vb m c (Proc.devRef .tc main_arg1) = m ((c : Thread nD τ).loc main_arg1) := V_main_arg1 m c
theorem Vc_res : Vc m c (Proc.devRef .tc main_v2) = resV m c := Function.update_self _ _ _
theorem Vc_of_ne (b : DevRef τ sig) (h : b ≠ Proc.devRef .tc main_v2) : Vc m c b = Vb m c b := Function.update_of_ne h _ _

/-- The buffer the body reads itself, and the buffers of @main that no window stages. -/
abbrev Hs : Finset (DevRef τ sig) := {Proc.devRef .tc main_arg0}
abbrev Sr : Finset (DevRef τ sig) := {Proc.devRef .tc main_arg0, Proc.devRef .tc main_arg1}
abbrev Arr : Finset (DevRef τ sig) := Pipeline.arrRefs (τ := τ) spec0

theorem arr_sub : Arr ⊆ Pipeline.ucRefs τ sig := by decide
theorem uc_diff : Pipeline.ucRefs τ sig \ Arr = Sr := by decide

/-- All of @main's buffers: the windows' arrays and the rest. -/
theorem held_split (W : Valuation τ sig (Elt F)) : (StableHlo.held (c : Thread nD τ) (Pipeline.ucRefs τ sig) W : sProp 𝕄)
    = iprop(StableHlo.held (c : Thread nD τ) Arr W ∗ StableHlo.held (c : Thread nD τ) Sr W) := by
  rw [StableHlo.held_sub_split (c : Thread nD τ) arr_sub W, uc_diff]

theorem held_src (W : Valuation τ sig (Elt F)) (h : W (Proc.devRef .tc main_arg0) = X m c) :
    (StableHlo.held (c : Thread nD τ) Hs W : sProp 𝕄) = iprop(srcM.view.loc (c : Thread nD τ) ↦{fullShare} (X m c)) := by
  unfold StableHlo.held
  rw [bigSep_singleton, h]

/-! ## The kernel's region -/

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

theorem kind_stage : ∀ (w : Fin 2) (s : Fin (spec0 w).nbuf), kind (.dma ((spec0 w).sem s)) = .other := by decide +kernel

theorem owned : Pipeline.OwnSemFacts spec0 osem where
  isScoped := by
    rintro ((⟨d, h, k⟩ | ⟨d, h, k⟩) | ⟨d, s⟩)
    · revert d h k; decide +kernel
    · revert d h k; decide +kernel
    · revert d s; decide +kernel
  inj := osem_inj
  disj o w s h := by
    have h' := congrArg kind h
    rw [kind_osem, kind_stage] at h'
    exact absurd h' (by simp)

/-- Whatever a device owes at launch is owed to some cell above level 0. -/
theorem start_pos {c : Dev nD} {g : GSem nD τ sig} {u : Unit} (h : 0 < O₀ c g u) : u ∈ L g ∧ 0 < lv g u := by
  have hb (c' : Dev nD) : u ∈ L (barCell c') ∧ 0 < lv (barCell c') u :=
    ⟨by rw [L_tc]; exact Finset.mem_singleton_self _, Nat.one_pos⟩
  have ht (c' : Dev nD) (h : 0 < tallyAt (barCell c') () 1 g u) : u ∈ L g ∧ 0 < lv g u := by
    rw [tallyAt_apply] at h
    split at h
    · next hg => rw [hg.1]; exact hb c'
    · exact absurd h (Nat.lt_irrefl 0)
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨p, -, rfl⟩ := owed_pos h
      exact ⟨by rw [L_tc]; exact Finset.mem_singleton_self _, by rw [lv_r]; omega⟩
    · exact ht _ h
  · exact ht _ h

theorem cut_owed (t : Fin (cfg0.N + 1)) (g : GSem nD τ sig) (i : Unit) (h : 0 < (dat0 m c).owed t g i) : i ∈ L g ∧ (0 : ℕ) < lv g i := by
  rw [show (dat0 m c).owed t = if t.val = 0 then O₀ c else 0 from rfl] at h
  split at h
  · exact start_pos h
  · exact absurd h (Nat.lt_irrefl 0)

theorem phi_in : iprop(Pipeline.scopedRest spec0 c ∗ (∃ r, prngReg c r) ∗ StableHlo.held (c : Thread nD τ) Hs (Vb m c) ∗ Xk m c) ⊢ ((dat0 m c).Φ 0 : sProp 𝕄) := by
  rw [show (dat0 m c).Φ 0 = Phi₀ m c from phi_first m c, held_src m c (Vb m c) (Vb_arg0 m c)]
  unfold Phi₀
  iintro ⟨Hb, Hp, Hs, HX⟩
  isplitl [Hb]; · iapply (scoped_eq c).1 $$ Hb
  isplitl [Hp]; · iexact Hp
  isplitl [Hs] <;> iassumption

theorem phi_out : ((dat0 m c).Φ (Fin.last cfg0.N) : sProp 𝕄)
    ⊢ iprop(Pipeline.scopedRest spec0 c ∗ (∃ r, prngReg c r) ∗ StableHlo.held (c : Thread nD τ) Hs (Vc m c) ∗ Pipeline.ownSems0 osem c ∗ semVal (barCell c) 0) := by
  rw [show (dat0 m c).Φ (Fin.last cfg0.N) = Phi₁ m c from phi_end m c,
    held_src m c (Vc m c) ((Vc_of_ne m c _ (by decide)).trans (Vb_arg0 m c))]
  unfold Phi₁
  iintro ⟨Hb, Hp, Hs, HX⟩
  isplitl [Hb]; · iapply (scoped_eq c).2 $$ Hb
  isplitl [Hp]; · iexact Hp
  isplitl [Hs] <;> iassumption

theorem arr_first (w : Fin cfg0.W) : (dat0 m c).arrAt w 0 = Vb m c (Proc.devRef .tc (Pipeline.arrRef spec0 w)) := rfl
theorem arr_last (w : Fin cfg0.W) : (dat0 m c).arrAt w cfg0.N = Vc m c (Proc.devRef .tc (Pipeline.arrRef spec0 w)) := by
  match w with
  | 0 =>
    rw [Vc_of_ne m c _ (show Proc.devRef .tc (Pipeline.arrRef spec0 0) ≠ Proc.devRef .tc main_v2 by decide)]
    exact (dat0 m c).arrAt_in 0 rfl _
  | 1 =>
    refine Eq.trans ?_ (Vc_res m c).symm
    exact (dat0 m c).arrAt_eq_of_after_last 1 t0_0 (by decide +kernel) (resV m c) (fun j => rfl) (Memref.isWhole_whole main_v2)

def seg0 : Pipeline.HostSeg (Name := ℕ) (U := UU) (pcfgs (F := F)) defs₀ 𝒱₀ L lv :=
  Pipeline.HostSeg.ofOps _ _ _ _ _ (Pipeline.ucRefs τ sig) hostOps0
    (fun op h => Pipeline.sub_ucRefs op (List.forall_iff_forall_mem.mp hostOps0_sub op h)) (List.forall_iff_forall_mem.mp hostOps0_fresh) (Va m)
    (fun c => iprop(Tk m c ∗ (∃ r, prngReg c r) ∗ ∃ W, owes (c : Thread nD τ) (O₀ c) W))

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem owned
    Hs Sr (by decide) launch0.toP rfl (fun c => (body_obligation m c).loose)
    (fun _ => 0) O₀ (fun c => (owed_first m c).trans (zero_add _).symm) (owed_end m) (fun _ => rfl) (fun _ w => by unfold Dat.share; split <;> rfl)
    (Vb m) (Vc m) (fun c b hb => Vc_of_ne m c b (by revert b; decide))
    (Tk m) (fun c => semVal (barCell c) 0) (Xk m) (fun c => semVal (barCell c) 0) (cells_open m) (phi_in m) (phi_out m)
    (fun c => by iintro H; imodintro; iexact H)
    (fun _ => 0)
    ⟨fun c w s => by rw [L_tc]; exact Finset.mem_singleton_self _, fun c w s => Nat.le_of_eq (congrArg levK (kind_stage w s)), fun c t g i h => cut_owed m c t g i h⟩
    (fun _ => iprop(emp))
    (arr_first m) (arr_last m)

end Cert.RingNorm

end
-- ==== Proof.Launch.lean ====
/-
The launch: the tokens and credits of the whole machine made and dealt to the devices, and the run.
-/
module

public import proofs.«01_k».proof.Proof.Region

@[expose] public section

noncomputable section

namespace Cert.RingNorm

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The tokens -/

/-- The duties of a device's cells: the barrier's two, one on each send and receive cell, four rounds on each staging cell. -/
abbrev Duty : Type := Bool ⊕ ((HK ⊕ HK) ⊕ ((Bool × Fin 2) × Fin 4))
def tokOf : Duty → SemLoc sig × ℕ × Bool
  | .inl b => (.reg barS, 0, b)
  | .inr (.inl p) => (osem (.inl p), 0, false)
  | .inr (.inr (q, r)) => (osem (.inr q), r.val, false)

theorem tokOf_inj : Function.Injective tokOf := fun x y h => by
  have hk : (kind (tokOf x).1, (tokOf x).2) = (kind (tokOf y).1, (tokOf y).2) := by rw [h]
  rcases x with b | p | ⟨q, r⟩ <;> rcases y with b' | p' | ⟨q', r'⟩ <;> simp only [tokOf, kind_osem, Prod.mk.injEq] at hk
  · rw [hk.2.2]
  · exact absurd hk.1 (by simp [kind])
  · exact absurd hk.1 (by simp [kind])
  · exact absurd hk.1 (by simp [kind])
  · rw [Sum.inl.inj (Kind.own.inj hk.1)]
  · exact absurd (Kind.own.inj hk.1) (by simp)
  · exact absurd hk.1 (by simp [kind])
  · exact absurd (Kind.own.inj hk.1) (by simp)
  · rw [Sum.inr.inj (Kind.own.inj hk.1), Fin.ext hk.2.1]

def toks : Finset (GSem nD τ sig × ℕ × Bool) :=
  Finset.univ.map ⟨fun cx : Dev nD × Duty => (((cx.1 : Thread nD τ), (tokOf cx.2).1), (tokOf cx.2).2), fun _ _ h =>
    Prod.ext (congrArg (fun t : GSem nD τ sig × ℕ × Bool => t.1.1.1) h)
      (tokOf_inj (Prod.ext (congrArg (fun t : GSem nD τ sig × ℕ × Bool => t.1.2) h) (congrArg (fun t : GSem nD τ sig × ℕ × Bool => t.2) h)))⟩

/-- Each device's tokens, cell by cell. -/
theorem toks_eq : (bigSep toks fun x => dutyTok ER x.1 x.2.1 x.2.2 : sProp 𝕄)
    = bigSep Finset.univ fun c : Dev nD => iprop((dutyTok ER (barCell c) 0 false ∗ dutyTok ER (barCell c) 0 true)
      ∗ ((bigSep Finset.univ fun p : HK => dutyTok ER (sCell c p.1 p.2.1 p.2.2) 0 false) ∗ (bigSep Finset.univ fun p : HK => dutyTok ER (rCell c p.1 p.2.1 p.2.2) 0 false))
      ∗ bigSep Finset.univ fun q : Bool × Fin 2 => Toks c q.1 q.2 0) := by
  unfold toks
  rw [bigSep_map, bigSep_univ_prod]
  refine bigSep_congr fun c _ => ?_
  rw [bigSep_univ_sum, bigSep_univ_sum, bigSep_univ_sum, two_eq]
  refine congrArg₂ _ rfl (congrArg₂ _ rfl ((bigSep_univ_prod _).trans (bigSep_congr fun q _ => ?_)))
  unfold Toks
  rw [show Finset.Ico 0 4 = (Finset.univ : Finset (Fin 4)).map Fin.valEmbedding from by decide, bigSep_map]
  rfl

/-- Every receive cell, met from the device that sends to it. -/
def senders : Dev nD × HK ≃ Dev nD × HK where
  toFun x := (peer x.1 x.2.1, x.2)
  invFun x := (peer x.1 (!x.2.1), x.2)
  left_inv x := Prod.ext (peer_back x.1 x.2.1) rfl
  right_inv x := Prod.ext (peer_back' x.1 x.2.1) rfl

theorem senders_sum (Φ : Dev nD → HK → sProp 𝕄) : (bigSep Finset.univ fun c : Dev nD => bigSep Finset.univ fun p : HK => Φ c p)
    = bigSep Finset.univ fun c : Dev nD => bigSep Finset.univ fun p : HK => Φ (peer c p.1) p := by
  rw [← bigSep_univ_prod (fun x : Dev nD × HK => Φ x.1 x.2), bigSep_univ_equiv senders, bigSep_univ_prod]
  rfl

/-- What a device pays with: its own send tokens, the receive and barrier tokens of its neighbours. -/
def payToks : sProp 𝕄 :=
  iprop((dutyTok ER (barCell (peer c true)) 0 false ∗ dutyTok ER (barCell (peer c false)) 0 true)
    ∗ (bigSep Finset.univ fun p : HK => TT c p.1 p.2.1 p.2.2) ∗ bigSep Finset.univ fun q : Bool × Fin 2 => Toks c q.1 q.2 0)

theorem toks_around : (bigSep toks fun x => dutyTok ER x.1 x.2.1 x.2.2 : sProp 𝕄) ⊢ bigSep Finset.univ fun c : Dev nD => payToks c := by
  rw [toks_eq]
  unfold payToks TT
  simp only [bigSep_sep']
  rw [bigSep_univ_equiv (ringE true) (fun c : Dev nD => (dutyTok ER (barCell c) 0 false : sProp 𝕄)),
    bigSep_univ_equiv (ringE false) (fun c : Dev nD => (dutyTok ER (barCell c) 0 true : sProp 𝕄)),
    senders_sum (fun c p => dutyTok ER (rCell c p.1 p.2.1 p.2.2) 0 false)]
  exact BI.Entails.refl _

/-! ## The credits -/

/-- What the devices together owe a cell: 2 to each barrier, `N` to each receive cell. -/
theorem sum_owed (g : GSem nD τ sig) : ∑ d : Dev nD, O₀ d g ()
    = (∑ x : Dev nD × HK, if g = rCell x.1 x.2.1 x.2.2.1 x.2.2.2 then N else 0)
      + (∑ d : Dev nD, if g = barCell d then 1 else 0) + ∑ d : Dev nD, if g = barCell d then 1 else 0 := by
  have ho (d : Dev nD) : O₀ d g () = (∑ p : HK, if g = rCell (peer d p.1) p.1 p.2.1 p.2.2 then N else 0)
      + (if g = barCell (peer d false) then 1 else 0) + if g = barCell (peer d true) then 1 else 0 := by
    unfold O₀ owed due
    rw [Pi.add_apply, Finsupp.add_apply, Pi.add_apply, Finsupp.add_apply, Finset.sum_apply, Finsupp.finset_sum_apply,
      Finset.filter_true_of_mem fun p _ => Nat.zero_le _]
    simp only [tallyAt_apply, and_true]
  rw [Finset.sum_congr rfl fun d _ => ho d, Finset.sum_add_distrib, Finset.sum_add_distrib]
  refine congrArg₂ _ (congrArg₂ _ ?_ ?_) ?_
  · rw [← Equiv.sum_comp senders, Fintype.sum_prod_type]; rfl
  · exact Equiv.sum_comp (ringE false) fun d => if g = barCell d then 1 else 0
  · exact Equiv.sum_comp (ringE true) fun d => if g = barCell d then 1 else 0

theorem kind_bar : kind (SemLoc.reg barS : SemLoc sig) = .bar := rfl

theorem dev_of_cell {c d : Dev nD} {s t : SemLoc sig} (h : ((c : Thread nD τ), s) = ((d : Thread nD τ), t)) : c = d :=
  congrArg (fun g : GSem nD τ sig => g.1.1) h

theorem owed_bar : ∑ d : Dev nD, O₀ d (barCell c) () = 2 := by
  have hne (x : Dev nD × HK) : barCell c ≠ rCell x.1 x.2.1 x.2.2.1 x.2.2.2 := fun h => by
    have := congrArg (fun g : GSem nD τ sig => kind g.2) h
    simp only [kind_r, kind_bar] at this
    exact absurd this (by simp)
  have hb : (∑ d : Dev nD, if barCell c = barCell d then 1 else 0) = 1 := by
    rw [Fintype.sum_eq_single c fun d hd => if_neg fun h => hd (dev_of_cell h).symm, if_pos rfl]
  rw [sum_owed, hb, Finset.sum_eq_zero fun x _ => if_neg (hne x)]

theorem owed_recv (p : HK) : ∑ d : Dev nD, O₀ d (rCell c p.1 p.2.1 p.2.2) () = N := by
  have hb : (∑ d : Dev nD, if rCell c p.1 p.2.1 p.2.2 = barCell d then 1 else 0) = 0 :=
    Finset.sum_eq_zero fun d _ => if_neg fun h => by
      have := congrArg (fun g : GSem nD τ sig => kind g.2) h
      simp only [kind_r, kind_bar] at this
      exact absurd this (by simp)
  rw [sum_owed, hb, Fintype.sum_eq_single (c, p) fun x hx => if_neg fun h => hx (Prod.ext (dev_of_cell h).symm (by
    have := congrArg (fun g : GSem nD τ sig => kind g.2) h
    simp only [kind_r] at this
    exact (Sum.inr.inj (Sum.inl.inj (Kind.own.inj this))).symm)), if_pos rfl, Nat.add_zero]

/-- A device's launch credit at one of its cells. -/
theorem cred_at (sm : SemLoc sig) (n : ℕ) (h : ∑ d : Dev nD, O₀ d ((c : Thread nD τ), sm) () = n) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, h]

/-- The credited cells of a device. -/
def credEmb : Unit ⊕ HK ↪ SemLoc sig where
  toFun x := match x with
    | .inl _ => .reg barS
    | .inr p => osem (.inl (.inr p))
  inj' x y h := by
    have h' := congrArg kind h
    rcases x with x | p <;> rcases y with y | p' <;> simp only [kind_osem, kind_bar] at h'
    · rfl
    · exact absurd h' (by simp)
    · exact absurd h' (by simp)
    · rw [Sum.inr.inj (Sum.inl.inj (Kind.own.inj h'))]

theorem creds : (Pipeline.launchCred O₀ c : sProp 𝕄)
    ⊢ iprop(cred (tallyAt (barCell c) () 2) ∗ bigSep Finset.univ fun p : HK => cred (tallyAt (rCell c p.1 p.2.1 p.2.2) () N)) := by
  unfold Pipeline.launchCred
  refine (bigSep_subset (Finset.subset_univ (Finset.univ.map credEmb))).trans ?_
  rw [bigSep_map, bigSep_univ_sum]
  have hb : (bigSep Finset.univ fun _ : Unit => cred (tallyOn (barCell c) (launchCredit (Pipeline.owing O₀) 0 (barCell c))) : sProp 𝕄) = cred (tallyAt (barCell c) () 2) := by
    rw [show (Finset.univ : Finset Unit) = {()} from rfl, bigSep_singleton, cred_at c (.reg barS) 2 (owed_bar c)]
  have hr : (bigSep Finset.univ fun p : HK => cred (tallyOn (oCell c (.inl (.inr p))) (launchCredit (Pipeline.owing O₀) 0 (oCell c (.inl (.inr p))))) : sProp 𝕄)
      = bigSep Finset.univ fun p : HK => cred (tallyAt (rCell c p.1 p.2.1 p.2.2) () N) :=
    bigSep_congr fun p _ => congrArg cred (cred_at c (osem (.inl (.inr p))) N (owed_recv c p))
  rw [← hb, ← hr]
  exact BI.Entails.refl _

/-! ## The launch -/

theorem disjoint_cells : Disjoint barCells ownCells := by
  rw [Finset.disjoint_left]
  rintro g h₁ h₂
  obtain ⟨c, -, rfl⟩ := Finset.mem_map.mp h₁
  obtain ⟨co, -, h⟩ := Finset.mem_map.mp h₂
  have h' : kind (osem co.2) = kind (.reg barS) := congrArg (fun g : GSem nD τ sig => kind g.2) h
  rw [kind_osem, kind_bar] at h'
  exact absurd h' (by simp)

def u₀ : UU :=
  (initOf (Pipeline.cells (Pipeline.pin (pcfgs (F := F)) adm) cellOf_inj) (Pipeline.launchToks (Pipeline.pin (pcfgs (F := F)) adm) cellOf_inj),
    launchOf barCells ownCells toks)

/-- The protocol's launch element, kept by device 0 until it is dealt. -/
def G (c : Dev nD) : sProp 𝕄 := if c = 0 then BI.own (ER (launchOf barCells ownCells toks)) else iprop(emp)

theorem G_all : bigSep Finset.univ (G (F := F)) = BI.own (ER (launchOf barCells ownCells toks)) := by
  rw [bigSep_univ_at _ (0 : Dev nD), bigSep_congr (s := Finset.univ.erase (0 : Dev nD)) (Ψ := fun _ => (BI.emp : sProp 𝕄))
    fun c hc => by unfold G; rw [if_neg (Finset.ne_of_mem_erase hc)]; rfl, BI.bigSep_emp_const]
  unfold G; rw [if_pos rfl]
  exact BI.equiv_iff.mp sep_emp

theorem sems_launch : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

/-- What a device launches with that is no part of the protocol's ghost state. -/
def Own₀ (c : Dev nD) : sProp 𝕄 :=
  iprop(StableHlo.held (c : Thread nD τ) (Pipeline.ucRefs τ sig) (Va m c) ∗ (∃ r, prngReg c r) ∗ (∃ W, owes (c : Thread nD τ) (O₀ c) W)
    ∗ cred (tallyAt (barCell c) () 2) ∗ bigSep Finset.univ fun p : HK => cred (tallyAt (rCell c p.1 p.2.1 p.2.2) () N))
/-- Its part of the protocol's ghost state. -/
def Part (c : Dev nD) : sProp 𝕄 := iprop(atPos ER (barCell c) 0 ∅ 0 ∗ (bigSep Finset.univ fun o : Own => openTok ER (oCell c o)) ∗ payToks c)

abbrev T₀ (c : Dev nD) : sProp 𝕄 := iprop(StableHlo.held (c : Thread nD τ) (Pipeline.ucRefs τ sig) (Va m c)
  ∗ Tk m c ∗ (∃ r, prngReg c r) ∗ ∃ W, owes (c : Thread nD τ) (O₀ c) W)
abbrev Tₙ (c : Dev nD) : sProp 𝕄 := iprop(StableHlo.held (c : Thread nD τ) (Pipeline.ucRefs τ sig) (Vc m c) ∗ semVal (barCell c) 0)

theorem deal (κ : GSem nD τ sig → ℕ) : iprop(records m κ ∗ (Part c ∗ Own₀ m c)) ⊢ T₀ m c := by
  unfold Part Own₀ T₀ Tk BarS payToks
  iintro ⟨#HR, ⟨Hat, Hop, ⟨HtF, HtT⟩, HTT, HTc⟩, Hh, Hp, HO, HcB, HcR⟩
  isplitl [Hh]; · iexact Hh
  isplitr [Hp HO]
  · isplitr; · iexists κ; iexact HR
    isplitl [HcB Hat HtF HtT]
    · isplitl [HcB]; · iexact HcB
      isplitl [Hat]; · iexact Hat
      isplitl [HtF] <;> iassumption
    isplitl [Hop]; · iexact Hop
    isplitl [HTc]; · iexact HTc
    isplitl [HTT] <;> iassumption
  isplitl [Hp] <;> iassumption

theorem own_launch : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(Own₀ m c ∗ semVal (barCell c) 0 ∗ G c) : sProp 𝕄) := by
  rw [show unscopedBufs c (fun b => m ((c : Thread nD τ).loc b)) = StableHlo.held (c : Thread nD τ) (Pipeline.ucRefs τ sig) (Va m c)
    from Pipeline.unscopedBufs_held c (Va m c), sems_launch]
  unfold Own₀
  iintro ⟨Hh, Hus, HO, Hcr, Hp, HG⟩
  ihave Hc := (creds (F := F) c) $$ Hcr
  icases Hc with ⟨H1, HN⟩
  isplitr [Hus HG]
  · isplitl [Hh]; · iexact Hh
    isplitl [Hp]; · iexists (ρ c); iexact Hp
    isplitl [HO]; · iexists ∅; iexact HO
    isplitl [H1] <;> iassumption
  isplitl [Hus] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hsplit : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop(bigSep Finset.univ (Own₀ m) ∗ (bigSep barCells fun g => semVal g 0) ∗ BI.own (ER (launchOf barCells ownCells toks))) : sProp 𝕄) := by
    refine (bigSep_mono fun c _ => own_launch m ρ c).trans ?_
    rw [bigSep_sep', bigSep_sep', show (bigSep Finset.univ fun c : Dev nD => G (F := F) c) = _ from G_all, barCells, bigSep_map]
    exact BI.Entails.refl _
  have hat : (bigSep barCells fun g => atPos ER g 0 ∅ 0 : sProp 𝕄) ⊢ bigSep Finset.univ fun c : Dev nD => atPos ER (barCell c) 0 ∅ 0 :=
    Entails.of_eq (bigSep_map (s := Finset.univ) barEmb (Φ := fun g : GSem nD τ sig => (atPos ER g 0 ∅ 0 : sProp 𝕄)))
  have hopen : (bigSep ownCells fun g => openTok ER g : sProp 𝕄) ⊢ bigSep Finset.univ fun c : Dev nD => bigSep Finset.univ fun o : Own => openTok ER (oCell c o) :=
    Entails.of_eq ((bigSep_map (s := Finset.univ) ownEmb (Φ := fun g : GSem nD τ sig => (openTok ER g : sProp 𝕄))).trans (bigSep_univ_prod _))
  iintro ⟨H, -⟩
  ihave H := hsplit $$ H
  icases H with ⟨HB, Hv, Hu⟩
  imod (Rounds.fund_launch ER (sched m) disjoint_cells (fun g _ h => h) toks) $$ [Hv Hu] with ⟨%κ, -, #Hinv, #Hr, Hat, Hopen, Htok⟩
  · isplitl [Hv] <;> iassumption
  imodintro
  iapply (bigSep_with_persistent (R := records m κ) (Φ := fun c => iprop(Part c ∗ Own₀ m c)) fun c _ => deal m c κ)
  isplitr
  · unfold records
    isplitr; · iexact Hinv
    iexact Hr
  iapply (Entails.of_eq (bigSep_sep' Finset.univ (fun c : Dev nD => Part (F := F) c) (fun c => Own₀ m c)).symm)
  isplitr [HB]
  · unfold Part
    iapply (Entails.of_eq (bigSep_sep' Finset.univ (fun c : Dev nD => atPos ER (barCell c) 0 ∅ 0)
      (fun c : Dev nD => iprop((bigSep Finset.univ fun o : Own => openTok ER (oCell c o)) ∗ payToks c))).symm)
    isplitl [Hat]; · iapply hat $$ Hat
    iapply (Entails.of_eq (bigSep_sep' Finset.univ (fun c : Dev nD => bigSep Finset.univ fun o : Own => openTok ER (oCell c o)) (fun c : Dev nD => payToks c)).symm)
    isplitl [Hopen]; · iapply hopen $$ Hopen
    iapply (toks_around (F := F)) $$ Htok
  · iexact HB

/-! ## The run -/

set_option backward.isDefEq.respectTransparency.types false in
theorem reg_pre : iprop(StableHlo.held (c : Thread nD τ) (Pipeline.ucRefs τ sig) (Vb m c) ∗ Tk m c ∗ (∃ r, prngReg c r) ∗ ∃ W, owes (c : Thread nD τ) (O₀ c) W)
    ⊢ (reg0 m).pre c := by
  show _ ⊢ iprop(StableHlo.held (c : Thread nD τ) Arr (Vb m c) ∗ (∃ r, prngReg c r)
    ∗ (StableHlo.held (c : Thread nD τ) Sr (Vb m c) ∗ emp) ∗ Tk m c ∗ ∃ Wd, owes (c : Thread nD τ) (0 + O₀ c) Wd)
  rw [held_split, zero_add]
  iintro ⟨⟨Ha, Hs⟩, HT, Hp, HO⟩
  isplitl [Ha]; · iexact Ha
  isplitl [Hp]; · iexact Hp
  isplitl [Hs]
  · isplitl [Hs]; · iexact Hs
    iempintro
  isplitl [HT] <;> iassumption

set_option backward.isDefEq.respectTransparency.types false in
theorem reg_post : (reg0 m).post c ⊢ iprop(Tₙ m c ∗ ∃ W, owes (c : Thread nD τ) (0 : CellTallies nD τ sig Unit) W) := by
  show iprop(StableHlo.held (c : Thread nD τ) Arr (Vc m c) ∗ (∃ r, prngReg c r)
    ∗ (StableHlo.held (c : Thread nD τ) Sr (Vc m c) ∗ emp) ∗ semVal (barCell c) 0 ∗ ∃ Wd, owes (c : Thread nD τ) (0 : CellTallies nD τ sig Unit) Wd) ⊢ _
  unfold Tₙ
  rw [held_split]
  iintro ⟨Ha, -, ⟨Hs, -⟩, Hb, HO⟩
  isplitr [HO]
  · isplitr [Hb]
    · isplitl [Ha] <;> iassumption
    iexact Hb
  iexact HO

def segs : List (Pipeline.Seg (pcfgs (F := F)) adm (pdats m) () defs₀ 𝒱₀ L lv) := [.host (seg0 m), .region (reg0 m)]

theorem bar_of_unscoped : ∀ sm : SemLoc sig, sm.isScoped .tc = false → sm = .reg barS := by decide +kernel

theorem held_bufs (W : Valuation τ sig (Elt F)) : (StableHlo.held (c : Thread nD τ) (Pipeline.ucRefs τ sig) W : sProp 𝕄)
    ⊢ iprop((((c : Thread nD τ).loc main_arg0) ↦{fullShare} W (Proc.devRef .tc main_arg0)) ∗ (((c : Thread nD τ).loc main_arg1) ↦{fullShare} W (Proc.devRef .tc main_arg1))
      ∗ (((c : Thread nD τ).loc main_v2) ↦{fullShare} W (Proc.devRef .tc main_v2))) := by
  have h := bigSep_subset (s := Pipeline.ucRefs τ sig) (t := {Proc.devRef .tc main_arg0, Proc.devRef .tc main_arg1, Proc.devRef .tc main_v2}) (by decide)
    (Φ := fun b => (iprop(((c, b) : Loc nD τ sig) ↦{fullShare} W b) : sProp 𝕄))
  rw [bigSep_insert (by decide), bigSep_insert (by decide), bigSep_singleton] at h
  exact h

set_option backward.isDefEq.respectTransparency.types false in
/-- The run: the kernel terminates on every device, its arguments unchanged, its result block `resV`, every counter at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = resV m c) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg0 m) (reg0 m) rfl c]; exact BI.Entails.refl _)
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨fun c => .rfl, fun c => reg_pre m c, fun c => reg_post m c⟩)
    (hinit := init m ρ)
    (QY := fun c s => (s.mem ((c : Thread nD τ).loc main_arg0) = Vc m c (Proc.devRef .tc main_arg0)
      ∧ s.mem ((c : Thread nD τ).loc main_arg1) = Vc m c (Proc.devRef .tc main_arg1) ∧ s.mem ((c : Thread nD τ).loc main_v2) = Vc m c (Proc.devRef .tc main_v2))
      ∧ s.sem (barCell c) = 0)
    (hfin := fun c s' => by
      dsimp only [Tₙ]
      iintro ⟨⟨Hh, Hb0⟩, HSI⟩
      ihave Hh := (held_bufs c (Vc m c)) $$ Hh
      icases Hh with ⟨Hx, Hy, Hz⟩
      icombine HSI Hx gives %hx
      icombine HSI Hy gives %hy
      icombine HSI Hz gives %hz
      icombine HSI Hb0 gives %hb
      imodintro
      isplitr
      · ipureintro
        exact ⟨⟨Buf.eq_of_forall_mem_univ hx, Buf.eq_of_forall_mem_univ hy, Buf.eq_of_forall_mem_univ hz⟩, by simpa using hb⟩
      iexact HSI)
    (hQ := fun s h hs => ⟨fun c => by
        obtain ⟨⟨hx, hy, hz⟩, -⟩ := h c
        exact ⟨hx.trans ((Vc_of_ne m c _ (by decide)).trans (Vb_arg0 m c)), hy.trans ((Vc_of_ne m c _ (by decide)).trans (Vb_arg1 m c)), hz.trans (Vc_res m c)⟩,
      sem_eq_zero hs fun c sm hsm => by
        obtain rfl := bar_of_unscoped sm hsm
        exact (h c).2⟩)

end Cert.RingNorm

end
-- ==== Proof.Formula.lean ====
/-
What one element of the result is, in the kernel's last step and in the reference: a row's element over the root of the
row's mean square, scaled.
-/
module

public import proofs.«01_k».proof.Proof.Adds
public import proofs.«01_k».proof.Proof.Gen.ReferenceIdeal.Run
public import Idealize.ShloMosaic.Lib.Pointwise

@[expose] public section

noncomputable section

namespace Cert.RingNorm

open Idealize.ShloMosaic

/-- Element `q` of a row `y` after the normalisation, scaled by `γ`. -/
def scaled (y : Fin 1024 → EReal) (γ : EReal) (q : Fin 1024) : EReal :=
  Ideal.div (y q) (Ideal.sqrt (Ideal.div (∑ k : Fin 1024, y k * y k) (Ideal.ofBits .f32 0x44800000#32) + Ideal.ofBits .f32 0x358637BD#32)) * γ

set_option maxRecDepth 16384 in
/-- The kernel's last step at an element: its row is the sum of what was received and the device's own. -/
theorem normV_at (v : FVec Ideal Cert.KernelIdeal.S128x1024 .bf16) (w : FVec Ideal Cert.KernelIdeal.S128x1024 .f32)
    (g : Vec Ideal Cert.KernelIdeal.S1x1024 .f32) (p : Fin 128) (q : Fin 1024) :
    normV v w g (ix2 p q) = scaled (fun k => v (ix2 p k) + w (ix2 p k)) (g (ix2 0 q)) q := by
  pointwise [normV, Cert.KernelIdeal.Gen.k0_pay66, scaled]

/-- The reference's result as one term of its arguments. -/
def refV (x : FVec Ideal Cert.ReferenceIdeal.S8x8192x1024 .f32) (g : FVec Ideal Cert.ReferenceIdeal.S1024 .f32) :
    FVec Ideal Cert.ReferenceIdeal.S8192x1024 .f32 :=
  open Cert.ReferenceIdeal Cert.ReferenceIdeal.Gen in
  have y : FVec Ideal S8192x1024 .f32 := Host.reduceAdd x (constant S_ .f32 0x00000000#32) reducesTo_S8x8192x1024_S8192x1024_d0 h_S_
  mulf (Host.divf y (broadcastInDim S8192x1024 ![0, 1] bcast_S8192x1_S8192x1024_0_1 (Host.sqrt (addf (Host.divf
      (broadcastInDim S8192x1 ![0] bcast_S8192_S8192x1_0 (Host.reduceAdd (mulf y y) (constant S_ .f32 0x00000000#32) reducesTo_S8192x1024_S8192_d1 h_S_))
      (broadcastInDim S8192x1 ![] bcast_S_S8192x1 (constant S_ .f32 0x44800000#32))) (broadcastInDim S8192x1 ![] bcast_S_S8192x1 (constant S_ .f32 0x358637BD#32))))))
    (broadcastInDim S8192x1024 ![0, 1] bcast_S1x1024_S8192x1024_0_1 (broadcastInDim S1x1024 ![1] bcast_S1024_S1x1024_1 g))

set_option maxRecDepth 16384 in
/-- The reference at an element: its row is the sum over the eight parts. -/
theorem refV_at (x : FVec Ideal Cert.ReferenceIdeal.S8x8192x1024 .f32) (g : FVec Ideal Cert.ReferenceIdeal.S1024 .f32) (p : Fin 8192) (q : Fin 1024) :
    refV x g (ix2 p q) = scaled (fun k => ∑ e : Fin 8, x (ix3 e p k)) (g (ix1 q)) q := by
  pointwise [refV, scaled]

end Cert.RingNorm

end
-- ==== Proof.Values.lean ====
/-
The result over the extended reals: going round, a sub-block has gathered the same rows of all eight devices' partial
sums, so that a device ends with its block of the reference's result.
-/
module

public import proofs.«01_k».proof.Proof.Formula
public import proofs.«01_k».proof.Proof.Body
public import Idealize.ShloMosaic.Lib.Pointwise.IndexBridge

@[expose] public section

noncomputable section

namespace Cert.RingNorm

open Cert.KernelIdeal Cert.KernelIdeal.Gen
open Idealize.ShloMosaic Idealize.ShloMosaic.TcCoe

/-! ## The way round -/

/-- The device a ring's sub-block was on `n` hops before it is on `c`. -/
def back (d : Bool) : ℕ → Dev nD → Dev nD
  | 0, c => c
  | n + 1, c => back d n (peer c (!d))

/-- Seven hops back and eight places in all: every device once. -/
theorem back_inj : ∀ (d : Bool) (c : Dev nD) (t t' : Fin 8), back d (7 - t.val) c = back d (7 - t'.val) c → t = t' := by decide +kernel

/-- The fetch a device makes when a sub-block passes is of the rows of the device where the sub-block ends. -/
theorem fetch_place : ∀ (d : Bool) (c : Dev nD) (t : Fin 8),
    fetchOff d (back d (7 - t.val) c) t.val = ![0, 1024 * c.val + 512 * d.toNat, 0] := by decide +kernel

section AnyFloat

variable {F : FTy → Type} [FloatOps F] (m : (ℓ : Loc nD τ sig) → Buf (Elt F) ℓ)

/-- A fetched element, by its place in the partial sums. -/
theorem stg_at (d : Bool) (t : Fin 8) (b : Dev nD) (o : ℕ) (h : fetchOff d b t.val = ![0, o, 0]) (i : S512x1024.Idx) (r : Fin 8192)
    (hr : r.val = o + (i 0).val) : stgV m d t b i = X m b (ix3 (0 : Fin 1) r (i 1 : Fin 1024)) := by
  show X m b ((fetchR d b t).emb (up512 i)) = _
  refine congrArg (X m b) (funext fun a => Fin.ext ?_)
  rw [ValueKit.rect_emb_unit_val, up512_val i a, h]
  revert a
  refine Fin.forall_fin_succ.mpr ⟨rfl, Fin.forall_fin_two.mpr ⟨?_, ?_⟩⟩
  · exact hr.symm
  · exact Nat.zero_add _

/-- The scale as the body reads it is the argument, as one row. -/
theorem gam_at (c : Dev nD) (q : Fin 1024) : gamV m c (ix2 (0 : Fin 1) q) = m ((c : Thread nD τ).loc main_arg1) (ix1 q) := by
  have e : gamV m c = shapeCast S1x1024 (m ((c : Thread nD τ).loc main_arg1)) shapeCasts_S1024_S1x1024 := by
    have hV : V m c main_v1 = shapeCast S1x1024 (m ((c : Thread nD τ).loc main_arg1)) shapeCasts_S1024_S1x1024 := by
      show StableHlo.after hostOps0 _ _ = _
      unfold hostOps0
      after_results
      rfl
    rw [← hV]
    funext j
    refine congrArg (V m c main_v1) (funext fun a => Fin.ext ?_)
    revert a
    refine Fin.forall_fin_two.mpr ⟨?_, ?_⟩
    · show 0 * 1 + 1 * (0 + 1 * (j 0).val) = (j 0).val
      omega
    · show 0 * 1024 + 1 * (0 + 1 * (j 1).val) = (j 1).val
      omega
  rw [e]
  pointwise

end AnyFloat

/-! ## Over the extended reals -/

variable (m : (ℓ : Loc nD τ sig) → Buf (Elt Ideal) ℓ)

/-- A sub-block's running sum, as a sum. -/
theorem acc_sum (d : Bool) (k : Fin 4) (i : S128x1024.Idx) (n : ℕ) : ∀ c : Dev nD,
    accV m d k n c i = ∑ t ∈ Finset.range (n + 1), (rows k (stgV m d (fin8 t) (back d (n - t) c)) i : EReal) := by
  induction n with
  | zero => intro c; rw [Finset.sum_range_one]; rfl
  | succ n ih =>
    intro c
    rw [Finset.sum_range_succ, Nat.sub_self]
    have e : accV m d k (n + 1) c i = accV m d k n (peer c (!d)) i + (rows k (stgV m d (fin8 (n + 1)) c) i : EReal) := rfl
    rw [e, ih]
    refine congrArg (· + (rows k (stgV m d (fin8 (n + 1)) c) i : EReal)) (Finset.sum_congr rfl fun t ht => ?_)
    rw [show n + 1 - t = (n - t) + 1 by have := Finset.mem_range.mp ht; omega]
    rfl

/-- An element of a device's partial sums. -/
def part (e : Fin 8) (r : Fin 8192) (q : Fin 1024) : EReal := m (((e : Dev nD) : Thread nD τ).loc main_arg0) (ix3 (0 : Fin 1) r q)

/-- What the last hop adds up: a row of the device's block, over all devices. -/
theorem last_sum (d : Bool) (k : Fin 4) (c : Dev nD) (p : Fin 128) (q : Fin 1024) (r : Fin 8192)
    (hr : r.val = 1024 * c.val + 512 * d.toNat + 128 * k.val + p.val) :
    (accV m d k 6 (peer c (!d)) (ix2 p q) + rows k (stgV m d 7 c) (ix2 p q) : EReal) = ∑ e : Fin 8, part m e r q := by
  have h7 : (accV m d k 6 (peer c (!d)) (ix2 p q) + rows k (stgV m d 7 c) (ix2 p q) : EReal) = accV m d k 7 c (ix2 p q) := rfl
  rw [h7, acc_sum, Finset.sum_range]
  refine Fintype.sum_bijective (fun t : Fin 8 => (back d (7 - t.val) c : Fin 8))
    (Finite.injective_iff_bijective.mp fun t t' => back_inj d c t t') _ _ fun t => ?_
  rw [rows_apply, show fin8 t.val = t from Fin.ext (Nat.mod_eq_of_lt t.isLt),
    stg_at m d t _ _ (fetch_place d c t) (rowIx k (ix2 p q)) r (by rw [hr]; show _ = _ + (128 * k.val + p.val); omega)]
  rfl

/-- A device's result block at an element: the row is summed over the devices and normalised. -/
theorem res_at (c : Dev nD) (p : Fin 1024) (q : Fin 1024) (r : Fin 8192) (hr : r.val = 1024 * c.val + p.val) :
    resV m c (ix2 p q) = scaled (fun k => ∑ e : Fin 8, part m e r k) (m ((c : Thread nD τ).loc main_arg1) (ix1 q)) q := by
  have hp : p.val = 512 * (partOf (ix2 p q)).1.toNat + 128 * (partOf (ix2 p q)).2.val + p.val % 128 := by
    have h := congrArg (fun i : S1024x1024.Idx => (i 0).val) (outR_emb (ix2 p q))
    change 512 * (partOf (ix2 p q)).1.toNat + 128 * (partOf (ix2 p q)).2.val + 1 * (p.val % 128) = p.val at h
    omega
  have hl : lowIx (ix2 p q) = ix2 (⟨p.val % 128, Nat.mod_lt _ (by decide)⟩ : Fin 128) q := (ix2_eq_valueIdx _ _).symm
  show finV m c (gamV m c) (partOf (ix2 p q)) (lowIx (ix2 p q)) = _
  unfold finV
  rw [hl, normV_at, gam_at]
  refine congrArg (fun y => scaled y _ q) (funext fun k => ?_)
  exact last_sum m _ _ c _ k r (by rw [hr]; show _ = 1024 * c.val + _ + _ + p.val % 128; omega)

/-- Block `c` of the reference's result is what device `c` ends with, if its arguments are its blocks of the reference's. -/
theorem res_block (x : FVec Ideal Cert.ReferenceIdeal.S8x8192x1024 .f32) (g : FVec Ideal Cert.ReferenceIdeal.S1024 .f32)
    (hx : ∀ c : Dev nD, m ((c : Thread nD τ).loc main_arg0) = Layout.block ⟨3, ![1, 8192, 1024]⟩ ⟨3, ![8, 8192, 1024]⟩ 0 8 c x)
    (hg : ∀ c : Dev nD, m ((c : Thread nD τ).loc main_arg1) = g) (c : Dev nD) :
    resV m c = Layout.block ⟨2, ![1024, 1024]⟩ ⟨2, ![8192, 1024]⟩ 0 8 c (refV x g) := by
  funext j
  obtain ⟨p, q, rfl⟩ : ∃ (p q : Fin 1024), j = ix2 p q := ⟨j 0, j 1, eq_ix2 j⟩
  have hc : c.val < 8 := c.isLt
  have hp := p.isLt
  have hb : (Layout.block ⟨2, ![1024, 1024]⟩ ⟨2, ![8192, 1024]⟩ 0 8 c (refV x g)) (ix2 p q)
      = refV x g (ix2 (⟨1024 * c.val + p.val, by omega⟩ : Fin 8192) q) := by
    refine congrArg (refV x g) (funext fun a => Fin.ext ?_)
    revert a
    refine Fin.forall_fin_two.mpr ⟨?_, rfl⟩
    show c.val * 1024 + p.val = 1024 * c.val + p.val
    omega
  rw [hb, refV_at]
  refine (res_at m c p q ⟨1024 * c.val + p.val, by omega⟩ rfl).trans ?_
  rw [hg c]
  refine congrArg (fun y => scaled y _ q) (funext fun k => Finset.sum_congr rfl fun e _ => ?_)
  unfold part
  rw [hx e]
  refine congrArg x (funext fun a => Fin.ext ?_)
  revert a
  refine Fin.forall_fin_succ.mpr ⟨?_, Fin.forall_fin_two.mpr ⟨rfl, rfl⟩⟩
  show e.val * 1 + 0 = e.val
  omega

end Cert.RingNorm

end
-- ==== Proof.lean ====
/- The certificate: the three frames, what the idealization keeps, and the value. The kernel's run is `Cert.RingNorm.run_main`,
   its value `Cert.RingNorm.res_block`. -/
module

public import proofs.«01_k».proof.Defs
public import proofs.«01_k».proof.Proof.Launch
public import proofs.«01_k».proof.Proof.Values
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem

/-- The kernel over any float values runs to the end, keeps its arguments and leaves every semaphore at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩) (Cert.RingNorm.run_main m ρ)

/-- The two printed programs have the same body tables, their texts being the same. -/
theorem bodies_same {F : FTy → Type} [FloatOps F] : Cert.Kernel.defs₀ (F := F) = Cert.KernelIdeal.defs₀ (F := F) := by
  refine congrArg Defs.onTc ?_
  funext ℓ a
  match ℓ, a with
  | 0, (t, s) => rfl

theorem tables_same {F : FTy → Type} [FloatOps F] : Cert.Kernel.defs (F := F) = Cert.KernelIdeal.defs (F := F) :=
  congrArg (Pipeline.defs Cert.KernelIdeal.pcfgs) bodies_same

/-- The kernel over the machine's floats. -/
theorem frame_kernel : Cert.quiescent_Kernel := fun m ρ _ => by
  rw [tables_same]
  exact frame_any (F := Bits) m ρ

/-- The kernel over the extended reals. -/
theorem frame_kernelIdeal : Cert.quiescent_KernelIdeal := fun m ρ _ => frame_any (F := Ideal) m ρ

/-- So does the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device ends with its block of the reference's result. -/
theorem value : Cert.algebraic_KernelIdeal_ReferenceIdeal := fun m ρ m' ρ' _ h =>
  ⟨Cert.RingNorm.refV _ _,
    (θ_run Cert.KernelIdeal.defs _ _).mono (fun _ hr c => ⟨(hr.1 c).2.2.trans (Cert.RingNorm.res_block m _ _ (fun e => (h e).1) (fun e => (h e).2) c),
        (hr.1 c).1, (hr.1 c).2.1⟩)
      (Cert.RingNorm.run_main (F := Ideal) m ρ),
    (θ_run Cert.ReferenceIdeal.defs _ _).mono (fun _ hr => hr 0) (Cert.ReferenceIdeal.Value.run (F := Ideal) m' ρ')⟩

/-- Every claim of the certificate. -/
theorem claim : Cert.Claim := ⟨Cert.Kernel.Gen.facts, Cert.KernelIdeal.Gen.facts, Cert.ReferenceIdeal.Gen.facts,
  frame_kernel, frame_kernelIdeal, frame_reference, trivial, value⟩

end Cert.Proof

end
